-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_finite [hPre_encoder_finite : Cert.Pre_encoder_finite.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_finite [hPre_encoder_finite : Cert.Pre_encoder_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_encoder_finite [hKernelIdeal : Cert.KernelIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_encoder_finite [hReferenceIdeal : Cert.ReferenceIdeal.Facts] [hPre_encoder_finite : Cert.Pre_encoder_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_encoder_finite [hKernelIdeal : Cert.KernelIdeal.Facts] [hReferenceIdeal : Cert.ReferenceIdeal.Facts] [hPre_encoder_finite : Cert.Pre_encoder_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_encoder_finite : Cert.Pre_encoder_finite.Facts),
    quiescent_Kernel (hKernel := hKernel)
    ∧ quiescent_KernelIdeal (hKernelIdeal := hKernelIdeal)
    ∧ quiescent_KernelIdeal_pre_encoder_finite (hKernelIdeal := hKernelIdeal) (hPre_encoder_finite := hPre_encoder_finite)
    ∧ quiescent_ReferenceIdeal (hReferenceIdeal := hReferenceIdeal)
    ∧ quiescent_ReferenceIdeal_pre_encoder_finite (hReferenceIdeal := hReferenceIdeal) (hPre_encoder_finite := hPre_encoder_finite)
    ∧ preserves_Kernel_KernelIdeal
    ∧ algebraic_KernelIdeal_ReferenceIdeal_pre_encoder_finite (hKernelIdeal := hKernelIdeal) (hReferenceIdeal := hReferenceIdeal) (hPre_encoder_finite := hPre_encoder_finite)
-- ==== Pre_encoder_finite.lean ====
abbrev S2048x1024 : Shape := ⟨2, ![2048, 1024]⟩
abbrev S1024x64 : Shape := ⟨2, ![1024, 64]⟩
abbrev S64 : Shape := ⟨1, ![64]⟩
abbrev S64x2048 : Shape := ⟨2, ![64, 2048]⟩
abbrev S1024x2048 : Shape := ⟨2, ![1024, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S2048x1024 .f32) (main_arg1 : FVec F S2048x1024 .f32) (main_arg2 : FVec F S2048x1024 .f32) (main_arg3 : FVec F S1024x64 .f32) (main_arg4 : FVec F S64 .f32) (main_arg5 : FVec F S64x2048 .f32) (main_arg6 : FVec F S1024x2048 .f32) (main_arg7 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x64 .f32 := Host.absf main_arg3
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S2048x1024 : Shape := ⟨2, ![2048, 1024]⟩
abbrev S1024x64 : Shape := ⟨2, ![1024, 64]⟩
abbrev S64 : Shape := ⟨1, ![64]⟩
abbrev S64x2048 : Shape := ⟨2, ![64, 2048]⟩
abbrev S1024x2048 : Shape := ⟨2, ![1024, 2048]⟩
abbrev S1x64 : Shape := ⟨2, ![1, 64]⟩
abbrev S1x1 : Shape := ⟨2, ![1, 1]⟩
abbrev S256x1024 : Shape := ⟨2, ![256, 1024]⟩
abbrev S256x64 : Shape := ⟨2, ![256, 64]⟩
abbrev S256 : Shape := ⟨1, ![256]⟩
abbrev S256x1 : Shape := ⟨2, ![256, 1]⟩
abbrev S256x8 : Shape := ⟨2, ![256, 8]⟩
abbrev S1x256x8 : Shape := ⟨3, ![1, 256, 8]⟩
abbrev S1 : Shape := ⟨1, ![1]⟩
abbrev S1x1x1 : Shape := ⟨3, ![1, 1, 1]⟩
abbrev S256x2048 : Shape := ⟨2, ![256, 2048]⟩
abbrev S1x256 : Shape := ⟨2, ![1, 256]⟩
abbrev S_ : Shape := ⟨0, ![]⟩

abbrev nBuf : Space → Nat
  | .hbm => 17
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x64, .f32⟩
  | .hbm, ⟨4, _⟩ => ⟨S64, .f32⟩
  | .hbm, ⟨5, _⟩ => ⟨S64x2048, .f32⟩
  | .hbm, ⟨6, _⟩ => ⟨S1024x2048, .f32⟩
  | .hbm, ⟨7, _⟩ => ⟨S2048x1024, .f32⟩
  | .hbm, ⟨8, _⟩ => ⟨S2048x1024, .bf16⟩
  | .hbm, ⟨9, _⟩ => ⟨S1x64, .f32⟩
  | .hbm, ⟨10, _⟩ => ⟨S64x2048, .bf16⟩
  | .hbm, ⟨11, _⟩ => ⟨S1024x2048, .bf16⟩
  | .hbm, ⟨12, _⟩ => ⟨S2048x1024, .bf16⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x64, .f32⟩
  | .local _ .vmem, ⟨7, _⟩ => ⟨S1x64, .f32⟩
  | .local _ .vmem, ⟨8, _⟩ => ⟨S64x2048, .bf16⟩
  | .local _ .vmem, ⟨9, _⟩ => ⟨S1024x2048, .bf16⟩
  | .local _ .vmem, ⟨10, _⟩ => ⟨S2048x1024, .bf16⟩
  | .local _ .vmem, ⟨11, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2048x1024 : Shape := ⟨2, ![2048, 1024]⟩
abbrev S1024x64 : Shape := ⟨2, ![1024, 64]⟩
abbrev S64 : Shape := ⟨1, ![64]⟩
abbrev S64x2048 : Shape := ⟨2, ![64, 2048]⟩
abbrev S1024x2048 : Shape := ⟨2, ![1024, 2048]⟩
abbrev S2048x64 : Shape := ⟨2, ![2048, 64]⟩
abbrev S1x64 : Shape := ⟨2, ![1, 64]⟩
abbrev S2048x8 : Shape := ⟨2, ![2048, 8]⟩
abbrev S_ : Shape := ⟨0, ![]⟩
abbrev S8 : Shape := ⟨1, ![8]⟩
abbrev S1x8 : Shape := ⟨2, ![1, 8]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S2048x8x1 : Shape := ⟨3, ![2048, 8, 1]⟩
abbrev S1x1x64 : Shape := ⟨3, ![1, 1, 64]⟩
abbrev S2048x8x64 : Shape := ⟨3, ![2048, 8, 64]⟩
abbrev S16384x64 : Shape := ⟨2, ![16384, 64]⟩
abbrev S2048x1x1024 : Shape := ⟨3, ![2048, 1, 1024]⟩
abbrev S2048x1x8x1024 : Shape := ⟨4, ![2048, 1, 8, 1024]⟩
abbrev S2048x8x1024 : Shape := ⟨3, ![2048, 8, 1024]⟩
abbrev S16384x1024 : Shape := ⟨2, ![16384, 1024]⟩
abbrev S16384x2048 : Shape := ⟨2, ![16384, 2048]⟩
abbrev S16384 : Shape := ⟨1, ![16384]⟩

abbrev nBuf : Space → Nat
  | .hbm => 125
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1024x64, .f32⟩
  | .hbm, ⟨4, _⟩ => ⟨S64, .f32⟩
  | .hbm, ⟨5, _⟩ => ⟨S64x2048, .f32⟩
  | .hbm, ⟨6, _⟩ => ⟨S1024x2048, .f32⟩
  | .hbm, ⟨7, _⟩ => ⟨S2048x1024, .f32⟩
  | .hbm, ⟨8, _⟩ => ⟨S2048x64, .f32⟩
  | .hbm, ⟨9, _⟩ => ⟨S1x64, .f32⟩
  | .hbm, ⟨10, _⟩ => ⟨S2048x64, .f32⟩
  | .hbm, ⟨11, _⟩ => ⟨S2048x64, .f32⟩
  | .hbm, ⟨12, _⟩ => ⟨S2048x8, .f32⟩
  | .hbm, ⟨13, _⟩ => ⟨S2048x8, .i32⟩
  | .hbm, ⟨14, _⟩ => ⟨S2048x8, .f32⟩
  | .hbm, ⟨15, _⟩ => ⟨S2048x8, .f32⟩
  | .hbm, ⟨16, _⟩ => ⟨S_, .f32⟩
  | .hbm, ⟨17, _⟩ => ⟨S_, .f32⟩
  | .hbm, ⟨18, _⟩ => ⟨S2048x8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S1x8, .f32⟩
  | .hbm, ⟨24, _⟩ => ⟨S2048x8, .f32⟩
  | .hbm, ⟨25, _⟩ => ⟨S2048x8, .f32⟩
  | .hbm, ⟨26, _⟩ => ⟨S_, .f32⟩
  | .hbm, ⟨27, _⟩ => ⟨S2048x8, .f32⟩
  | .hbm, ⟨28, _⟩ => ⟨S2048x8, .f32⟩
  | .hbm, ⟨29, _⟩ => ⟨S2048x8, .i1⟩
  | .hbm, ⟨30, _⟩ => ⟨S2048x8, .i32⟩
  | .hbm, ⟨31, _⟩ => ⟨S_, .i32⟩
  | .hbm, ⟨32, _⟩ => ⟨S2048, .i32⟩
  | .hbm, ⟨33, _⟩ => ⟨S2048x1, .i32⟩
  | .hbm, ⟨34, _⟩ => ⟨S_, .i32⟩
  | .hbm, ⟨35, _⟩ => ⟨S2048x1, .i32⟩
  | .hbm, ⟨36, _⟩ => ⟨S2048x1, .i32⟩
  | .hbm, ⟨37, _⟩ => ⟨S_, .i32⟩
  | .hbm, ⟨38, _⟩ => ⟨S2048x1, .i32⟩
  | .hbm, ⟨39, _⟩ => ⟨S2048x1, .i1⟩
  | .hbm, ⟨40, _⟩ => ⟨S_, .i32⟩
  | .hbm, ⟨41, _⟩ => ⟨S2048x1, .i32⟩
  | .hbm, ⟨42, _⟩ => ⟨S2048x1, .i32⟩
  | .hbm, ⟨43, _⟩ => ⟨S2048x1, .i32⟩
  | .hbm, ⟨44, _⟩ => ⟨S2048x1x1, .i32⟩
  | .hbm, ⟨45, _⟩ => ⟨S1, .i32⟩
  | .hbm, ⟨46, _⟩ => ⟨S_, .i32⟩
  | .hbm, ⟨47, _⟩ => ⟨S2048x1x1, .i32⟩
  | .hbm, ⟨48, _⟩ => ⟨S2048x1x1, .i1⟩
  | .hbm, ⟨49, _⟩ => ⟨S1x1x1, .i32⟩
  | .hbm, ⟨50, _⟩ => ⟨S2048x1x1, .i32⟩
  | .hbm, ⟨51, _⟩ => ⟨S2048x1x1, .i1⟩
  | .hbm, ⟨52, _⟩ => ⟨S2048x1x1, .i1⟩
  | .hbm, ⟨53, _⟩ => ⟨S_, .i1⟩
  | .hbm, ⟨54, _⟩ => ⟨S2048x1, .i1⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x1, .f32⟩
  | .hbm, ⟨63, _⟩ => ⟨S2048x1, .f32⟩
  | .hbm, ⟨64, _⟩ => ⟨S2048x8, .f32⟩
  | .hbm, ⟨65, _⟩ => ⟨S2048x8, .f32⟩
  | .hbm, ⟨66, _⟩ => ⟨S_, .f32⟩
  | .hbm, ⟨67, _⟩ => ⟨S_, .f32⟩
  | .hbm, ⟨68, _⟩ => ⟨S2048x8, .f32⟩
  | .hbm, ⟨69, _⟩ => ⟨S2048x8, .f32⟩
  | .hbm, ⟨70, _⟩ => ⟨S_, .f32⟩
  | .hbm, ⟨71, _⟩ => ⟨S2048x8, .f32⟩
  | .hbm, ⟨72, _⟩ => ⟨S2048x8, .i1⟩
  | .hbm, ⟨73, _⟩ => ⟨S_, .f32⟩
  | .hbm, ⟨74, _⟩ => ⟨S_, .f32⟩
  | .hbm, ⟨75, _⟩ => ⟨S2048x8, .f32⟩
  | .hbm, ⟨76, _⟩ => ⟨S2048x8, .f32⟩
  | .hbm, ⟨77, _⟩ => ⟨S2048x8, .f32⟩
  | .hbm, ⟨78, _⟩ => ⟨S2048x8, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S2048x8x1, .i32⟩
  | .hbm, ⟨90, _⟩ => ⟨S1x1x64, .i32⟩
  | .hbm, ⟨91, _⟩ => ⟨S2048x8x64, .i32⟩
  | .hbm, ⟨92, _⟩ => ⟨S2048x8x64, .i32⟩
  | .hbm, ⟨93, _⟩ => ⟨S2048x8x64, .i1⟩
  | .hbm, ⟨94, _⟩ => ⟨S2048x8x64, .f32⟩
  | .hbm, ⟨95, _⟩ => ⟨S16384x64, .f32⟩
  | .hbm, ⟨96, _⟩ => ⟨S2048x1x1024, .f32⟩
  | .hbm, ⟨97, _⟩ => ⟨S2048x1x8x1024, .f32⟩
  | .hbm, ⟨98, _⟩ => ⟨S2048x8x1024, .f32⟩
  | .hbm, ⟨99, _⟩ => ⟨S16384x1024, .f32⟩
  | .hbm, ⟨100, _⟩ => ⟨S2048x1x1024, .f32⟩
  | .hbm, ⟨101, _⟩ => ⟨S2048x1x8x1024, .f32⟩
  | .hbm, ⟨102, _⟩ => ⟨S2048x8x1024, .f32⟩
  | .hbm, ⟨103, _⟩ => ⟨S16384x1024, .f32⟩
  | .hbm, ⟨104, _⟩ => ⟨S16384x2048, .f32⟩
  | .hbm, ⟨105, _⟩ => ⟨S16384x2048, .f32⟩
  | .hbm, ⟨106, _⟩ => ⟨S16384x2048, .f32⟩
  | .hbm, ⟨107, _⟩ => ⟨S_, .f32⟩
  | .hbm, ⟨108, _⟩ => ⟨S16384x2048, .f32⟩
  | .hbm, ⟨109, _⟩ => ⟨S16384x2048, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S_, .f32⟩
  | .hbm, ⟨114, _⟩ => ⟨S16384, .f32⟩
  | .hbm, ⟨115, _⟩ => ⟨S_, .f32⟩
  | .hbm, ⟨116, _⟩ => ⟨S16384, .f32⟩
  | .hbm, ⟨117, _⟩ => ⟨S16384, .f32⟩
  | .hbm, ⟨118, _⟩ => ⟨S16384, .f32⟩
  | .hbm, ⟨119, _⟩ => ⟨S16384, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_values : Ref sig .tc := ⟨.hbm, 12, rfl⟩
abbrev main_indices : Ref sig .tc := ⟨.hbm, 13, rfl⟩
abbrev main_v4 : Ref sig .tc := ⟨.hbm, 14, rfl⟩
abbrev main_v5 : Ref sig .tc := ⟨.hbm, 15, rfl⟩
abbrev main_call1_call0_cst : Ref sig .tc := ⟨.hbm, 16, rfl⟩
abbrev main_call1_call0_v0 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v21 : Ref sig .tc := ⟨.hbm, 58, rfl⟩
abbrev main_cst_2 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_3 : Ref sig .tc := ⟨.hbm, 66, rfl⟩
abbrev main_call3_v0 : Ref sig .tc := ⟨.hbm, 67, rfl⟩
abbrev main_call3_v1 : Ref sig .tc := ⟨.hbm, 68, rfl⟩
abbrev main_v28 : Ref sig .tc := ⟨.hbm, 69, rfl⟩
abbrev main_cst_4 : Ref sig .tc := ⟨.hbm, 70, rfl⟩
abbrev main_v29 : Ref sig .tc := ⟨.hbm, 71, rfl⟩
abbrev main_v30 : Ref sig .tc := ⟨.hbm, 72, rfl⟩
abbrev main_cst_5 : Ref sig .tc := ⟨.hbm, 73, rfl⟩
abbrev main_call4_v0 : Ref sig .tc := ⟨.hbm, 74, rfl⟩
abbrev main_call4_v1 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_6 : Ref sig .tc := ⟨.hbm, 79, rfl⟩
abbrev main_v34 : Ref sig .tc := ⟨.hbm, 80, rfl⟩
abbrev main_v35 : Ref sig .tc := ⟨.hbm, 81, rfl⟩
abbrev main_cst_7 : Ref sig .tc := ⟨.hbm, 82, rfl⟩
abbrev main_v36 : Ref sig .tc := ⟨.hbm, 83, rfl⟩
abbrev main_cst_8 : Ref sig .tc := ⟨.hbm, 84, rfl⟩
abbrev main_v37 : Ref sig .tc := ⟨.hbm, 85, rfl⟩
abbrev main_cst_9 : Ref sig .tc := ⟨.hbm, 86, rfl⟩
abbrev main_v38 : Ref sig .tc := ⟨.hbm, 87, rfl⟩
abbrev main_v39 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_call6_cst : Ref sig .tc := ⟨.hbm, 107, rfl⟩
abbrev main_call6_v0 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_cst_10 : Ref sig .tc := ⟨.hbm, 113, rfl⟩
abbrev main_v57 : Ref sig .tc := ⟨.hbm, 114, rfl⟩
abbrev main_cst_11 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_cst_12 : Ref sig .tc := ⟨.hbm, 120, rfl⟩
abbrev main_v62 : Ref sig .tc := ⟨.hbm, 121, rfl⟩
abbrev main_cst_13 : Ref sig .tc := ⟨.hbm, 122, rfl⟩
abbrev main_v63 : Ref sig .tc := ⟨.hbm, 123, rfl⟩
abbrev main_v64 : Ref sig .tc := ⟨.hbm, 124, rfl⟩

abbrev nD : Nat := 1
abbrev τ : Topo := Topo.v7x

variable {F : FTy → Type} [FloatOps F]
-- ==== Proof.KernelRun.lean ====
/-
  The run of the idealized kernel with the contents of its output named.

  The kernel walks the batch in eight blocks of 256 rows.  At each block it computes one number (`bodyOut` spells it from the
  block's inputs) and adds it to a one-element output buffer, which the first block overwrites.  Here: what the body stores, as a
  function of what it loads (`bodyOut`, by its operations in order), and the body's triple with that value (`body_run`).
-/
module

public import proofs.«01_k».proof.Proof.Gen.KernelIdeal.Frame
public import proofs.«01_k».proof.Proof.Gen.KernelIdeal.Skeleton
public import Idealize.ShloMosaic.Lib.Claim
public import Idealize.ShloMosaic.Lib.Pipeline.Value
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body stores -/

/-- The rounds' index vector. -/
abbrev lanes : IVec S256x64 32 := iota .tc S256x64 32 [1] iota_S256x64_d1_w32

/-- The value the body stores in the one-element output: its operations, in order, applied to the loaded blocks. -/
def bodyOut (a : BitVec 32) (x0 : Vec F S256x1024 .f32) (x1 : Vec F S256x1024 .bf16) (x2 : Vec F S256x1024 .f32)
    (x3 : Vec F S1024x64 .f32) (x4 : Vec F S1x64 .f32) (x5 : Vec F S64x2048 .bf16) (x6 : Vec F S1024x2048 .bf16)
    (x7 : Vec F S2048x1024 .bf16) (d : Vec F S1x1 .f32) : FVec F S1x1 .f32 :=
  let v35 := k0_pay10 x0 x3 x4
  let v41 := k0_pay12 x0 x3 x4
  let v77 := k0_pay23 lanes v35 v41
  let v87 := k0_pay25 lanes v35 v41
  let v9 := k0_pay3 x0 x3 x4
  let v23 := k0_pay7 x0 x3 x4
  let v37 := k0_pay11 x0 x3 x4
  let v51 := k0_pay16 lanes v35 v41
  let v65 := k0_pay20 lanes v35 v41
  let v79 := k0_pay24 lanes v35 v41
  let v118 := k0_pay35 lanes v9 v23 v37 v51 v65 v77 v79 v87
  let v134 := k0_pay36 lanes v9 v23 v37 v51 v65 v77 v79 v87
  let v139 := k0_pay38 lanes v9 v23 v37 v51 v65 v77 v79 v87
  let v159 := k0_pay39 v118 v134 k0_pay37 v139
  let v175 := k0_pay40 x1 x6
  let v177 := k0_pay41 v118 v134 k0_pay37 v139
  let v201 := k0_pay43 v159 v175 x2 v177 (k0_pay42 (k0_pay5 x0 x3 x4)) x5 x7
  let v221 := k0_pay44 (k0_pay9 x0 x3 x4) v159 v175 x2 x5 x7
  let v249 := k0_pay45 (k0_pay14 lanes v41) v159 v175 x2 v201 v221 x5 x7
  let v263 := k0_pay46 (k0_pay18 lanes v35 v41) v175 x2 x5 x7
  let v297 := k0_pay47 (k0_pay22 lanes v35 v41) v159 v175 x2 v249 v263 x5 x7
  let v305 := k0_pay48 (k0_pay27 (k0_pay26 lanes v35 v41)) v175 x5
  let v345 := k0_pay49 (k0_pay31 lanes v77 v87) v159 v175 x2 v297 v305 x7 x5 x7
  k0_pay1 a v159 v175 x2 v345 (k0_pay50 (k0_pay34 lanes v77 v87)) (k0_pay51 x5) (constant S256x2048 .f32 0x00000000#32) x7 d

/-- Equal inputs, equal stored values. -/
theorem bodyOut_congr (a : BitVec 32) {x0 y0 : Vec F S256x1024 .f32} {x1 y1 : Vec F S256x1024 .bf16} {x2 y2 : Vec F S256x1024 .f32}
    {x3 y3 : Vec F S1024x64 .f32} {x4 y4 : Vec F S1x64 .f32} {x5 y5 : Vec F S64x2048 .bf16} {x6 y6 : Vec F S1024x2048 .bf16}
    {x7 y7 : Vec F S2048x1024 .bf16} {d e : Vec F S1x1 .f32} (h0 : x0 = y0) (h1 : x1 = y1) (h2 : x2 = y2) (h3 : x3 = y3)
    (h4 : x4 = y4) (h5 : x5 = y5) (h6 : x6 = y6) (h7 : x7 = y7) (h8 : d = e) :
    bodyOut a x0 x1 x2 x3 x4 x5 x6 x7 d = bodyOut a y0 y1 y2 y3 y4 y5 y6 y7 e := by
  subst h0 h1 h2 h3 h4 h5 h6 h7 h8; rfl

/-- A load of everything a whole buffer holds reads the contents it was given. -/
theorem load_whole {sp : Space} {s : Shape} {e : EltTy} {mr : Memref sig .tc sp s e} (h : mr.IsWhole) (X : s.Idx → Elt F e)
    {off : Fin s.rank → ℕ} (inb : ∀ a, off a + s.size a ≤ s.size a) :
    View.readAt (Elt F) mr.view (Rect.unit off s.size inb).toLoadRect (h.unread X) = X :=
  (View.readAt_full _ _ inb).trans (h.read_unread X)

set_option maxHeartbeats 1000000 in
/-- The body's triple: on whole staging buffers holding `x0 … x7` and, in the output's, `d`, the body runs and leaves the
    inputs' as they were and in the output's the value `bodyOut` of all of them. -/
theorem body_run (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1024x64 .f32) (harg4 : arg4.IsWhole) (arg5 : Memref sig .tc .vmem S1x64 .f32) (harg5 : arg5.IsWhole) (arg6 : Memref sig .tc .vmem S64x2048 .bf16) (harg6 : arg6.IsWhole) (arg7 : Memref sig .tc .vmem S1024x2048 .bf16) (harg7 : arg7.IsWhole) (arg8 : Memref sig .tc .vmem S2048x1024 .bf16) (harg8 : arg8.IsWhole) (arg9 : Memref sig .tc .vmem S1x1 .f32) (harg9 : arg9.IsWhole)
    (x0 : Vec F S256x1024 .f32) (x1 : Vec F S256x1024 .bf16) (x2 : Vec F S256x1024 .f32) (x3 : Vec F S1024x64 .f32) (x4 : Vec F S1x64 .f32) (x5 : Vec F S64x2048 .bf16) (x6 : Vec F S1024x2048 .bf16) (x7 : Vec F S2048x1024 .bf16) (d : Vec F S1x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare d
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (bodyOut (BitVec.ofNat 32 (i 0).val) x0 x1 x2 x3 x4 x5 x6 x7 d)) -∗ K ⟨⟩))
          ⊢ wp frame (wpE (defs₀ (F := F)) Variants.none c none) E (cc0__main_body i arg1 harg1 arg2 harg2 arg3 harg3 arg4 harg4 arg5 harg5 arg6 harg6 arg7 harg7 arg8 harg8 arg9 harg9) K := by
    intro E K
    simp only [cc0__main_body_eq_skeleton]; unfold cc0__main_body_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; isplitr; swap; · iexact H8
    ipureintro
    refine (View.read_writes_full _ _ _ _ _).trans ((show _ = bodyOut (BitVec.ofNat 32 (i 0).val)
      (View.readAt (Elt F) arg1.view (Rect.unit ![0, 0] S256x1024.size inb_S256x1024_S256x1024_0_0).toLoadRect (harg1.unread x0))
      (View.readAt (Elt F) arg2.view (Rect.unit ![0, 0] S256x1024.size inb_S256x1024_S256x1024_0_0).toLoadRect (harg2.unread x1))
      (View.readAt (Elt F) arg3.view (Rect.unit ![0, 0] S256x1024.size inb_S256x1024_S256x1024_0_0).toLoadRect (harg3.unread x2))
      (View.readAt (Elt F) arg4.view (Rect.unit ![0, 0] S1024x64.size inb_S1024x64_S1024x64_0_0).toLoadRect (harg4.unread x3))
      (View.readAt (Elt F) arg5.view (Rect.unit ![0, 0] S1x64.size inb_S1x64_S1x64_0_0).toLoadRect (harg5.unread x4))
      (View.readAt (Elt F) arg6.view (Rect.unit ![0, 0] S64x2048.size inb_S64x2048_S64x2048_0_0).toLoadRect (harg6.unread x5))
      (View.readAt (Elt F) arg7.view (Rect.unit ![0, 0] S1024x2048.size inb_S1024x2048_S1024x2048_0_0).toLoadRect (harg7.unread x6))
      (View.readAt (Elt F) arg8.view (Rect.unit ![0, 0] S2048x1024.size inb_S2048x1024_S2048x1024_0_0).toLoadRect (harg8.unread x7))
      (View.readAt (Elt F) arg9.view (Rect.unit ![0, 0] S1x1.size inb_S1x1_S1x1_0_0).toLoadRect (harg9.unread d)) from rfl).trans ?_)
    exact bodyOut_congr _ (load_whole harg1 x0 _) (load_whole harg2 x1 _) (load_whole harg3 x2 _) (load_whole harg4 x3 _)
      (load_whole harg5 x4 _) (load_whole harg6 x5 _) (load_whole harg7 x6 _) (load_whole harg8 x7 _) (load_whole harg9 d _)

end Cert.KernelIdeal.Run

end
-- ==== Proof.KernelValue.lean ====
/-
  The idealized kernel's run, with its result named.

  The grid's eight points run in order over one output buffer: the first point overwrites it (`bodyOut_zero`), each later one
  reads what the point before left (`left`).  So the result array ends at `left` of the last point, and the host's two closing
  operations divide its one element by the number of rows (`run_value`).
-/
module

public import proofs.«01_k».proof.Proof.KernelRun

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## What the output buffer holds after each point -/

/-- The first point's store does not depend on what the output buffer held. -/
theorem bodyOut_zero (x0 : Vec F S256x1024 .f32) (x1 : Vec F S256x1024 .bf16) (x2 : Vec F S256x1024 .f32)
    (x3 : Vec F S1024x64 .f32) (x4 : Vec F S1x64 .f32) (x5 : Vec F S64x2048 .bf16) (x6 : Vec F S1024x2048 .bf16)
    (x7 : Vec F S2048x1024 .bf16) (d e : Vec F S1x1 .f32) :
    bodyOut 0#32 x0 x1 x2 x3 x4 x5 x6 x7 d = bodyOut 0#32 x0 x1 x2 x3 x4 x5 x6 x7 e := rfl

/-- What the body at point `t` leaves in the output buffer that held `d`. -/
def step (c : Dev nD) (t : Fin cfg0.N) (d : Vec F S1x1 .f32) : Vec F S1x1 .f32 :=
  bodyOut (BitVec.ofNat 32 (grid0.coords t 0).val) (iblk m c 0 t) (iblk m c 1 t) (iblk m c 2 t) (iblk m c 3 t)
    (iblk m c 4 t) (iblk m c 5 t) (iblk m c 6 t) (iblk m c 7 t) d

/-- What the output buffer holds after point `n`. -/
def left (c : Dev nD) : (n : ℕ) → n < cfg0.N → Vec F S1x1 .f32
  | 0, h => step m c ⟨0, h⟩ (fun _ => FloatOps.ofBits .f32 0x00000000#32)
  | n + 1, h => step m c ⟨n + 1, h⟩ (left c n (Nat.lt_of_succ_lt h))

/-- The first point's step forgets the buffer. -/
theorem step_zero (c : Dev nD) (h : 0 < cfg0.N) (d e : Vec F S1x1 .f32) : step m c ⟨0, h⟩ d = step m c ⟨0, h⟩ e := by
  have h0 : (grid0.coords ⟨0, h⟩ 0).val = 0 := by
    show (grid0.coords t0_0 0).val = 0
    decide
  unfold step
  rw [h0]
  exact bodyOut_zero _ _ _ _ _ _ _ _ d e

/-- The proof data: every input's buffer keeps its block, the output's holds `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => left m c t.val t.isLt
  Φ _ := Pipeline.ΦA spec0 c
  q _ := fullShare
  owed _ := 0

/-- The data's arrays are what the region finds. -/
theorem A_eq (c : Dev nD) (w : Fin cfg0.W) : (dats m 0 c).A w = V m c (Pipeline.arrRef spec0 w) := by
  dsimp only [dats]

/-- Input 0 after the body: its block. -/
theorem after_0 (c : Dev nD) (t : Fin cfg0.N) : (dats m 0 c).after 0 t = iblk m c 0 t := by dsimp only [dats]
/-- Input 1 after the body: its block. -/
theorem after_1 (c : Dev nD) (t : Fin cfg0.N) : (dats m 0 c).after 1 t = iblk m c 1 t := by dsimp only [dats]
/-- Input 2 after the body: its block. -/
theorem after_2 (c : Dev nD) (t : Fin cfg0.N) : (dats m 0 c).after 2 t = iblk m c 2 t := by dsimp only [dats]
/-- Input 3 after the body: its block. -/
theorem after_3 (c : Dev nD) (t : Fin cfg0.N) : (dats m 0 c).after 3 t = iblk m c 3 t := by dsimp only [dats]
/-- Input 4 after the body: its block. -/
theorem after_4 (c : Dev nD) (t : Fin cfg0.N) : (dats m 0 c).after 4 t = iblk m c 4 t := by dsimp only [dats]
/-- Input 5 after the body: its block. -/
theorem after_5 (c : Dev nD) (t : Fin cfg0.N) : (dats m 0 c).after 5 t = iblk m c 5 t := by dsimp only [dats]
/-- Input 6 after the body: its block. -/
theorem after_6 (c : Dev nD) (t : Fin cfg0.N) : (dats m 0 c).after 6 t = iblk m c 6 t := by dsimp only [dats]
/-- Input 7 after the body: its block. -/
theorem after_7 (c : Dev nD) (t : Fin cfg0.N) : (dats m 0 c).after 7 t = iblk m c 7 t := by dsimp only [dats]
/-- The output after the body. -/
theorem after_8 (c : Dev nD) (t : Fin cfg0.N) : (dats m 0 c).after 8 t = left m c t.val t.isLt := by dsimp only [dats]

/-- Input 0 before the body: its block. -/
theorem before_0 (c : Dev nD) (t : Fin cfg0.N) (d) : (dats m 0 c).before 0 t d = iblk m c 0 t :=
  before0_0_of m (dats m 0 c) (A_eq m c 0) (after_0 m c) t d
/-- Input 1 before the body: its block. -/
theorem before_1 (c : Dev nD) (t : Fin cfg0.N) (d) : (dats m 0 c).before 1 t d = iblk m c 1 t :=
  before0_1_of m (dats m 0 c) (A_eq m c 1) (after_1 m c) t d
/-- Input 2 before the body: its block. -/
theorem before_2 (c : Dev nD) (t : Fin cfg0.N) (d) : (dats m 0 c).before 2 t d = iblk m c 2 t :=
  before0_2_of m (dats m 0 c) (A_eq m c 2) (after_2 m c) t d
/-- Input 3 before the body: its block. -/
theorem before_3 (c : Dev nD) (t : Fin cfg0.N) (d) : (dats m 0 c).before 3 t d = iblk m c 3 t :=
  before0_3_of m (dats m 0 c) (A_eq m c 3) (after_3 m c) t d
/-- Input 4 before the body: its block. -/
theorem before_4 (c : Dev nD) (t : Fin cfg0.N) (d) : (dats m 0 c).before 4 t d = iblk m c 4 t :=
  before0_4_of m (dats m 0 c) (A_eq m c 4) (after_4 m c) t d
/-- Input 5 before the body: its block. -/
theorem before_5 (c : Dev nD) (t : Fin cfg0.N) (d) : (dats m 0 c).before 5 t d = iblk m c 5 t :=
  before0_5_of m (dats m 0 c) (A_eq m c 5) (after_5 m c) t d
/-- Input 6 before the body: its block. -/
theorem before_6 (c : Dev nD) (t : Fin cfg0.N) (d) : (dats m 0 c).before 6 t d = iblk m c 6 t :=
  before0_6_of m (dats m 0 c) (A_eq m c 6) (after_6 m c) t d
/-- Input 7 before the body: its block. -/
theorem before_7 (c : Dev nD) (t : Fin cfg0.N) (d) : (dats m 0 c).before 7 t d = iblk m c 7 t :=
  before0_7_of m (dats m 0 c) (A_eq m c 7) (after_7 m c) t d

/-- The output's step: from what the buffer holds before point `t` the body leaves `left` at `t`. -/
theorem step_before (c : Dev nD) (t : Fin cfg0.N) (d) :
    step m c t ((dats m 0 c).before 8 t d) = (dats m 0 c).after 8 t := by
  obtain ⟨n, hn⟩ := t
  rw [after_8]
  match n, hn with
  | 0, hn => exact step_zero m c hn _ _
  | n + 1, hn =>
    rw [(dats m 0 c).before_out_kept 8 rfl ⟨n + 1, hn⟩ (Nat.succ_ne_zero n) (by
      have h8 : n + 1 < 8 := N_0 ▸ hn
      cases hf : (cfg0.win 8).flush ⟨n + 1 - 1, _⟩ with
      | false => rfl
      | true => have h7 := (flush0_8 _).mp hf; simp only [Nat.add_sub_cancel] at h7; omega) (fun _ => rfl) (fun _ _ => rfl) d, after_8]
    rfl

/-! ## The body obligation -/

/-- What the body is called with at point `t`. -/
def callPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d)))

/-- What it returns. -/
def callPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t))

set_option maxHeartbeats 800000 in
/-- The body at any point, from the buffers' contents before it to those after it. -/
theorem body_sound (c : Dev nD) (t : Fin cfg0.N) :
    callPre m c t ⊢ wp frame (wpE (defs₀ (F := F)) Variants.none c none) Set.univ (bodyAt0 t) (fun _ => callPost m c t) := by
  unfold callPre callPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← step_before m c t d8]
  iapply ((body_run c (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 8 t d8)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The called body is the body at the point's slots. -/
theorem body_at (t : Fin cfg0.N) : defs₀ (F := F) .tc cfg0.body (cfg0.bodyArgs t (cfg0.slots t)) = bodyAt0 t := by
  unfold defs₀; rw [Defs.onTc_tc]

/-- The obligation the pipeline asks of the body. -/
theorem obligation (c : Dev nD) : BodyObligation (dats (F := F) m 0 c) (defs₀ (F := F)) Variants.none () Set.univ := fun t => by
  rw [bigSep_W0, bigSep_W0, body_at]
  exact triple_restated (body_sound m c t) rfl .rfl fun _ => .rfl

/-! ## The run -/

set_option backward.isDefEq.respectTransparency.types false in
set_option maxHeartbeats 800000 in
/-- Every run ends, with every array at its contents after the last point and every counter at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The result array's one element after the last point. -/
abbrev last (c : Dev nD) : Vec F S1x1 .f32 := left m c 7 (by rw [show cfg0.N = 8 from N_0]; decide)

/-- The write-back, after the last point, writes `last`. -/
theorem flushed_last (c : Dev nD) (t : Fin cfg0.N) (hf : (cfg0.win 8).flush t = true) :
    (dats m 0 c).flushed 8 t = ((cfg0.win 8).blk t).view.read (Elt F) (last m c) := by
  have hN : cfg0.N = 8 := N_0
  have h7 : t.val = 7 := by have := (flush0_8 t).mp hf; have := t.isLt; omega
  obtain rfl : t = t0_7 := Fin.ext h7
  show (cfg0.win 8).cut (grid0.coords t0_7) ((dats m 0 c).after 8 t0_7) = _
  rw [after_8]
  have hz' : (fun a => win0_8.index t0_7 a * main_v5.ty.shape.size a) = fun _ => 0 := funext fun a => by fin_cases a <;> decide
  exact (Memref.read_access_unit_zero (Elt F) main_v5 hz' (fun a => by rw [congrFun hz' a]; simp) (last m c)).symm

/-- The result array after the run. -/
theorem array_last (c : Dev nD) : (dats m 0 c).arrAt 8 cfg0.N = last m c :=
  (dats m 0 c).arrAt_eq_of_cover 8 (last m c) (flushed_last m c) fun i =>
    ⟨t0_7, (flush0_8 t0_7).mpr rfl, by
      show i ∈ ((View.whole main_v5).slice (win0_8.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_8.index t0_7 0 * win0_8.size 0 ≤ (i 0 : Nat) ∧ (i 0 : Nat) < win0_8.index t0_7 0 * win0_8.size 0 + win0_8.xsize (grid0.coords t0_7) 0
        rw [show win0_8.index t0_7 0 * win0_8.size 0 = 0 from by decide +kernel, show win0_8.xsize (grid0.coords t0_7) 0 = 1 from by decide +kernel]; omega
      | ⟨1, _⟩ =>
        show win0_8.index t0_7 1 * win0_8.size 1 ≤ (i 1 : Nat) ∧ (i 1 : Nat) < win0_8.index t0_7 1 * win0_8.size 1 + win0_8.xsize (grid0.coords t0_7) 1
        rw [show win0_8.index t0_7 1 * win0_8.size 1 = 0 from by decide +kernel, show win0_8.xsize (grid0.coords t0_7) 1 = 1 from by decide +kernel]; omega⟩

/-- The kernel's result: the array's element divided by the number of rows. -/
def result (c : Dev nD) : Vec F S_ .f32 :=
  Host.divf (shapeCast S_ (last m c) shapeCasts_S1x1_S_) (constant S_ .f32 0x45000000#32)

/-- What the host's closing operations leave in the result. -/
theorem tail_result (c : Dev nD) : Pipeline.afterTail₀ cfgs (dats m) 0 (V0 m) [hostOps1] c main_v7 = result m c := by
  unfold Pipeline.afterTail₀
  have h5 : Pipeline.withArrays (cfgs (0 : Fin 1)).spec c (V0 m c) (fun w => (dats m 0 c).arrAt w (cfgs (0 : Fin 1)).N)
      (Proc.devRef .tc main_v5) = last m c :=
    (Pipeline.withArrays_arr spec0 (by decide) c (V0 m c) _ 8).trans (array_last m c)
  simp only [List.flatten_cons, List.flatten_nil, List.append_nil]
  unfold hostOps1
  after_results
  rw [h5]
  rfl

/-- Every run of the kernel ends with `result` in its result, its arguments as they were and every counter at zero. -/
theorem run_value : θ_run defs (onTc (τ := τ) (main (F := F))) ⟨m, fun _ => 0, ρ⟩ (fun r => (∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have hrun := run_all m ρ
  have hargs := frame_of m ρ (dats m) (A_eq m) ((θ_run defs _ _).mono (fun _ h => h.1) hrun)
  exact (θ_run defs _ _).mono (fun _ h => ⟨fun c => ⟨((h.2.1 c).2 main_v7 (Pipeline.mem_restRefs_of main_v7 (by decide) (by decide))).trans
    (tail_result m c), h.1 c⟩, h.2.2⟩) (θ_run_and hargs hrun)

end Cert.KernelIdeal.Run

end
-- ==== Proof.KernelBits.lean ====
/-
  The kernel's text at any floats is the idealized kernel's.

  No operation is rewritten between the two, so body, body table and host program are the same terms (`body_eq`, `bodies_eq`,
  `defs_eq`, `main_eq`); the idealized kernel's run, proved of any floats, is then the kernel's (`run`).
-/
module

public import proofs.«01_k».proof.Proof.Gen.Kernel
public import proofs.«01_k».proof.Proof.KernelValue

@[expose] public section

noncomputable section

namespace Cert.Kernel.Same

open Idealize.ShloMosaic Idealize.ShloMosaic.TcCoe Idealize.SL.Sem

variable {F : FTy → Type} [FloatOps F]

/-- The bodies are the same. -/
theorem body_eq : @Cert.Kernel.cc0__main_body F _ Cert.Kernel.Gen.facts = @Cert.KernelIdeal.cc0__main_body F _ Cert.KernelIdeal.Gen.facts := rfl

/-- So are the body tables. -/
theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | ⟨0, _⟩, (t, s) =>
    exact congrFun (congrFun (congrFun (congrFun (congrFun (congrFun (congrFun (congrFun (congrFun (congrFun (congrFun (congrFun (congrFun
      (congrFun (congrFun (congrFun (congrFun (congrFun (congrFun body_eq _) _) _) _) _) _) _) _) _) _) _) _) _) _) _) _) _) _) _

/-- And the tables with the pipelines. -/
theorem defs_eq : @Cert.Kernel.defs F _ Cert.Kernel.Gen.facts = @Cert.KernelIdeal.defs F _ Cert.KernelIdeal.Gen.facts :=
  congrArg (Pipeline.defs (Cert.KernelIdeal.pcfgs (F := F))) bodies_eq

/-- And the host programs. -/
theorem main_eq : @Cert.Kernel.main F _ Cert.Kernel.Gen.facts = @Cert.KernelIdeal.main F _ Cert.KernelIdeal.Gen.facts := rfl

/-- The kernel runs, leaves its arguments and ends with every counter at zero. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact (θ_run _ _ _).mono (fun _ h => ⟨fun c => (h.1 c).2, h.2⟩) (Cert.KernelIdeal.Run.run_value m ρ)

end Cert.Kernel.Same

end
-- ==== Proof.KernelBody.lean ====
/-
  The body's stored value, written by rounds.

  The operations of `bodyOut` repeat one round eight times: the row maximum, the marks of its least index, the row with the
  marked entry removed; and, with the marks as a one-hot row, one decoder pass and its squared error.  Here the round is written
  once and `bodyOut` is eight of it (`bodyOut_eq`).
-/
module

public import proofs.«01_k».proof.Proof.KernelRun

@[expose] public section

set_option maxRecDepth 16384

noncomputable section

namespace Cert.KernelIdeal.Run

open Idealize.ShloMosaic Idealize.ShloMosaic.TcCoe
open Cert.KernelIdeal.Gen

variable {F : FTy → Type} [FloatOps F]

/-- The greatest entry of each row, as a column. -/
def rowMax (lg : FVec F S256x64 .f32) : FVec F S256x1 .f32 :=
  shapeCast S256x1 (multiReduction .maximumf [1] S256 lg 0xFF800000#32 reduces_S256x64_S256 (.inl rfl) rfl) shapeCasts_S256_S256x1

/-- The indices where a row's greatest entry stands, `64` elsewhere. -/
def rowWhere (lg : FVec F S256x64 .f32) : IVec S256x64 32 :=
  select (cmpf .oeq lg (broadcastTo S256x64 (rowMax lg) broadcasts_S256x1_S256x64)) lanes (broadcast S256x64 64#32)

/-- The mark of the least such index. -/
def rowHit (lg : FVec F S256x64 .f32) : IVec S256x64 1 :=
  cmpi .eq lanes (broadcastTo S256x64 (shapeCast S256x1
    (multiReductionI .minsi [1] S256 (rowWhere lg) 2147483647#32 reduces_S256x64_S256 rfl) shapeCasts_S256_S256x1)
    broadcasts_S256x1_S256x64)

/-- The marks as numbers: a one-hot row. -/
def rowHot (lg : FVec F S256x64 .f32) : FVec F S256x64 .f32 := sitofp .f32 (extui 32 (rowHit lg) natLt_1_32)

/-- The rows with the marked entries removed. -/
def rowDrop (lg : FVec F S256x64 .f32) : FVec F S256x64 .f32 :=
  select (rowHit lg) (broadcast S256x64 (Scalar.ofBits .f32 0xFF800000#32)) lg

/-- The rows after `k` rounds. -/
def rowCur (lg : FVec F S256x64 .f32) : ℕ → FVec F S256x64 .f32
  | 0 => lg
  | k + 1 => rowDrop (rowCur lg k)

/-- The eight maxima side by side. -/
def zs (lg : FVec F S256x64 .f32) : FVec F S256x8 .f32 :=
  concatenate S256x8 1 [⟨S256x1, rowMax (rowCur lg 0)⟩, ⟨S256x1, rowMax (rowCur lg 1)⟩, ⟨S256x1, rowMax (rowCur lg 2)⟩,
    ⟨S256x1, rowMax (rowCur lg 3)⟩, ⟨S256x1, rowMax (rowCur lg 4)⟩, ⟨S256x1, rowMax (rowCur lg 5)⟩, ⟨S256x1, rowMax (rowCur lg 6)⟩,
    ⟨S256x1, rowMax (rowCur lg 7)⟩] concatenates_S256x1_S256x1_S256x1_S256x1_S256x1_S256x1_S256x1_S256x1_S256x8_d1

/-- The column of the first maxima, and the running sums after it. -/
def run0 (z : FVec F S256x8 .f32) : FVec F S256x1 .f32 := extractStridedSlice S256x1 ![0, 0] z slices_S256x8_o0_0_S256x1
@[inherit_doc run0] def run1 (z : FVec F S256x8 .f32) : FVec F S256x1 .f32 :=
  addf (run0 z) (extractStridedSlice S256x1 ![0, 1] z slices_S256x8_o0_1_S256x1)
@[inherit_doc run0] def run2 (z : FVec F S256x8 .f32) : FVec F S256x1 .f32 :=
  addf (run1 z) (extractStridedSlice S256x1 ![0, 2] z slices_S256x8_o0_2_S256x1)
@[inherit_doc run0] def run3 (z : FVec F S256x8 .f32) : FVec F S256x1 .f32 :=
  addf (run2 z) (extractStridedSlice S256x1 ![0, 3] z slices_S256x8_o0_3_S256x1)
@[inherit_doc run0] def run4 (z : FVec F S256x8 .f32) : FVec F S256x1 .f32 :=
  addf (run3 z) (extractStridedSlice S256x1 ![0, 4] z slices_S256x8_o0_4_S256x1)
@[inherit_doc run0] def run5 (z : FVec F S256x8 .f32) : FVec F S256x1 .f32 :=
  addf (run4 z) (extractStridedSlice S256x1 ![0, 5] z slices_S256x8_o0_5_S256x1)
@[inherit_doc run0] def run6 (z : FVec F S256x8 .f32) : FVec F S256x1 .f32 :=
  addf (run5 z) (extractStridedSlice S256x1 ![0, 6] z slices_S256x8_o0_6_S256x1)
@[inherit_doc run0] def run7 (z : FVec F S256x8 .f32) : FVec F S256x1 .f32 :=
  addf (run6 z) (extractStridedSlice S256x1 ![0, 7] z slices_S256x8_o0_7_S256x1)

/-- The running sums side by side. -/
def czs (z : FVec F S256x8 .f32) : FVec F S256x8 .f32 :=
  concatenate S256x8 1 [⟨S256x1, run0 z⟩, ⟨S256x1, run1 z⟩, ⟨S256x1, run2 z⟩, ⟨S256x1, run3 z⟩, ⟨S256x1, run4 z⟩,
    ⟨S256x1, run5 z⟩, ⟨S256x1, run6 z⟩, ⟨S256x1, run7 z⟩]
    concatenates_S256x1_S256x1_S256x1_S256x1_S256x1_S256x1_S256x1_S256x1_S256x8_d1

/-- The sparsemax weights of the eight maxima. -/
def probs (z : FVec F S256x8 .f32) : FVec F S256x8 .f32 := k0_pay39 z (czs z) k0_pay37 (mulf k0_pay37 z)

/-- One decoder pass's squared error, per row, over 1024. -/
def rowLoss (h : FVec F S256x64 .f32) (u : FVec F S256x2048 .f32) (lab : Vec F S256x1024 .f32) (w1 : Vec F S64x2048 .bf16)
    (w2 : Vec F S2048x1024 .bf16) : FVec F S256 .f32 :=
  let x := truncf .bf16 (maximumf (addf u (matmul dot_S256x64_S64x2048_S256x2048_1_0_0_1_n_n none (truncf .bf16 h bitsLt_bf16_f32)
    (shapeCast S64x2048 w1 shapeCasts_S64x2048_S64x2048) (constant S256x2048 .f32 0x00000000#32)))
    (broadcast S256x2048 (Scalar.ofBits .f32 0x00000000#32))) bitsLt_bf16_f32
  let e := subf (matmul dot_S256x2048_S2048x1024_S256x1024_1_0_0_1_n_n none x
    (shapeCast S2048x1024 w2 shapeCasts_S2048x1024_S2048x1024) (constant S256x1024 .f32 0x00000000#32)) lab
  mulf (multiReduction .add [1] S256 (mulf e e) 0x00000000#32 reduces_S256x1024_S256 (.inl rfl) rfl)
    (broadcast S256 (Scalar.ofBits .f32 0x3A800000#32))

/-- The sum over the rows of a weight column times a loss. -/
def weigh (p : FVec F S256x1 .f32) (l : FVec F S256 .f32) : F .f32 :=
  extractAt ![0, 0] (shapeCast S1x1 (multiReduction .add [1] S1 (shapeCast S1x256 (mulf (shapeCast S256 p shapeCasts_S256x1_S256) l)
    shapeCasts_S256_S1x256) 0x00000000#32 reduces_S1x256_S1 (.inl rfl) rfl) shapeCasts_S1_S1x1) inpos_S1x1_p0_0

/-- The number a block adds: its entropy part, and eight weighed losses. -/
def blockSum (lg : FVec F S256x64 .f32) (u : FVec F S256x2048 .f32) (lab : Vec F S256x1024 .f32) (w1 : Vec F S64x2048 .bf16)
    (w2 : Vec F S2048x1024 .bf16) : F .f32 :=
  let p := probs (zs lg)
  let q k := rowLoss (rowHot (rowCur lg k)) u lab w1 w2
  Scalar.addf (Scalar.addf (Scalar.addf (Scalar.addf (Scalar.addf (Scalar.addf (Scalar.addf (Scalar.addf
    (k0_pay41 (zs lg) (czs (zs lg)) k0_pay37 (mulf k0_pay37 (zs lg)))
    (weigh (extractStridedSlice S256x1 ![0, 0] p slices_S256x8_o0_0_S256x1) (q 0)))
    (weigh (extractStridedSlice S256x1 ![0, 1] p slices_S256x8_o0_1_S256x1) (q 1)))
    (weigh (extractStridedSlice S256x1 ![0, 2] p slices_S256x8_o0_2_S256x1) (q 2)))
    (weigh (extractStridedSlice S256x1 ![0, 3] p slices_S256x8_o0_3_S256x1) (q 3)))
    (weigh (extractStridedSlice S256x1 ![0, 4] p slices_S256x8_o0_4_S256x1) (q 4)))
    (weigh (extractStridedSlice S256x1 ![0, 5] p slices_S256x8_o0_5_S256x1) (q 5)))
    (weigh (extractStridedSlice S256x1 ![0, 6] p slices_S256x8_o0_6_S256x1) (q 6)))
    (weigh (extractStridedSlice S256x1 ![0, 7] p slices_S256x8_o0_7_S256x1) (q 7))

/-- What a block stores: its number, added to what the output held except at the first block. -/
def store (a : BitVec 32) (b : F .f32) (d : Vec F S1x1 .f32) : FVec F S1x1 .f32 :=
  Scalar.select (Scalar.cmpi .eq a 0#32) (broadcast S1x1 b) (addf (shapeCast S1x1 d shapeCasts_S1x1_S1x1) (broadcast S1x1 b))

/-- The operations as rounds. -/
theorem bodyOut_eq (a : BitVec 32) (x0 : Vec F S256x1024 .f32) (x1 : Vec F S256x1024 .bf16) (x2 : Vec F S256x1024 .f32)
    (x3 : Vec F S1024x64 .f32) (x4 : Vec F S1x64 .f32) (x5 : Vec F S64x2048 .bf16) (x6 : Vec F S1024x2048 .bf16)
    (x7 : Vec F S2048x1024 .bf16) (d : Vec F S1x1 .f32) :
    bodyOut a x0 x1 x2 x3 x4 x5 x6 x7 d = store a (blockSum (k0_pay2 x0 x3 x4) (k0_pay40 x1 x6) x2 x5 x7) d := by
  have h9 : k0_pay3 x0 x3 x4 = rowMax (rowCur (k0_pay2 x0 x3 x4) 0) := rfl
  have h35 : k0_pay10 x0 x3 x4 = rowCur (k0_pay2 x0 x3 x4) 2 := rfl
  have h23 : k0_pay7 x0 x3 x4 = rowMax (rowCur (k0_pay2 x0 x3 x4) 1) := rfl
  have h37 : k0_pay11 x0 x3 x4 = rowMax (rowCur (k0_pay2 x0 x3 x4) 2) := rfl
  have h41 : k0_pay12 x0 x3 x4 = rowWhere (rowCur (k0_pay2 x0 x3 x4) 2) := rfl
  have e0 : k0_pay5 x0 x3 x4 = rowHot (rowCur (k0_pay2 x0 x3 x4) 0) := rfl
  have e1 : k0_pay9 x0 x3 x4 = rowHot (rowCur (k0_pay2 x0 x3 x4) 1) := rfl
  unfold bodyOut
  dsimp only
  rw [h9, h35, h23, h37, h41, e0, e1]
  generalize k0_pay2 x0 x3 x4 = lg
  have e2 : k0_pay14 (F := F) lanes (rowWhere (rowCur lg 2)) = rowHot (rowCur lg 2) := rfl
  have c5 : k0_pay23 lanes (rowCur lg 2) (rowWhere (rowCur lg 2)) = rowCur lg 5 := rfl
  have m3 : k0_pay16 lanes (rowCur lg 2) (rowWhere (rowCur lg 2)) = rowMax (rowCur lg 3) := rfl
  have m4 : k0_pay20 lanes (rowCur lg 2) (rowWhere (rowCur lg 2)) = rowMax (rowCur lg 4) := rfl
  have m5 : k0_pay24 lanes (rowCur lg 2) (rowWhere (rowCur lg 2)) = rowMax (rowCur lg 5) := rfl
  have i5 : k0_pay25 lanes (rowCur lg 2) (rowWhere (rowCur lg 2)) = rowHit (rowCur lg 5) := rfl
  have e3 : k0_pay18 lanes (rowCur lg 2) (rowWhere (rowCur lg 2)) = rowHot (rowCur lg 3) := rfl
  have e4 : k0_pay22 lanes (rowCur lg 2) (rowWhere (rowCur lg 2)) = rowHot (rowCur lg 4) := rfl
  have e5 : k0_pay27 (F := F) (k0_pay26 lanes (rowCur lg 2) (rowWhere (rowCur lg 2))) = rowHot (rowCur lg 5) := rfl
  rw [e2, c5, m3, m4, m5, i5, e3, e4, e5]
  have e6 : k0_pay31 lanes (rowCur lg 5) (rowHit (rowCur lg 5)) = rowHot (rowCur lg 6) := rfl
  have e7 : k0_pay34 lanes (rowCur lg 5) (rowHit (rowCur lg 5)) = rowHot (rowCur lg 7) := rfl
  have z : k0_pay35 lanes (rowMax (rowCur lg 0)) (rowMax (rowCur lg 1)) (rowMax (rowCur lg 2)) (rowMax (rowCur lg 3))
      (rowMax (rowCur lg 4)) (rowCur lg 5) (rowMax (rowCur lg 5)) (rowHit (rowCur lg 5)) = zs lg := rfl
  have cz : k0_pay36 lanes (rowMax (rowCur lg 0)) (rowMax (rowCur lg 1)) (rowMax (rowCur lg 2)) (rowMax (rowCur lg 3))
      (rowMax (rowCur lg 4)) (rowCur lg 5) (rowMax (rowCur lg 5)) (rowHit (rowCur lg 5)) = czs (zs lg) := rfl
  have rz : k0_pay38 lanes (rowMax (rowCur lg 0)) (rowMax (rowCur lg 1)) (rowMax (rowCur lg 2)) (rowMax (rowCur lg 3))
      (rowMax (rowCur lg 4)) (rowCur lg 5) (rowMax (rowCur lg 5)) (rowHit (rowCur lg 5)) = mulf k0_pay37 (zs lg) := rfl
  rw [e6, e7, z, cz, rz]
  unfold blockSum
  generalize k0_pay41 (zs lg) (czs (zs lg)) k0_pay37 (mulf k0_pay37 (zs lg)) = c
  generalize hp : k0_pay39 (zs lg) (czs (zs lg)) k0_pay37 (mulf k0_pay37 (zs lg)) = p
  have hp' : probs (zs lg) = p := hp
  rw [hp']
  generalize k0_pay40 x1 x6 = u
  rfl

end Cert.KernelIdeal.Run

end
-- ==== Proof.Row.lean ====
/-
  One row of logits: its eight greatest entries taken one at a time.

  A round takes the greatest entry of the row, at the least index where it stands, and removes it (puts `-∞` there).  On a row
  with no entry `-∞`, eight rounds take eight different indices, in descending order of their entries and, among equal entries,
  in ascending order of their indices; nothing left out comes before anything taken.  So a stable descending sort of the row
  begins with the same indices (`sortedFrom_sel`), and the sorted and reversed eight are the eight again (`resort`).
-/
module

public import Idealize.ShloMosaic.Lib.SortPrefix
public import Mathlib.Data.EReal.Operations
public import Mathlib.Data.Finset.Max
public import Mathlib.Data.Finset.Lattice.Fold

@[expose] public section

noncomputable section

namespace Cert.Row

open Idealize.ShloMosaic

/-- A row of logits. -/
abbrev Row := Fin 64 → EReal

/-- The greatest entry. -/
def top (x : Row) : EReal := Finset.univ.sup x

/-- Where the greatest entry stands. -/
def hits (x : Row) : Finset (Fin 64) := Finset.univ.filter fun j => x j = top x

/-- It stands somewhere. -/
theorem hits_nonempty (x : Row) : (hits x).Nonempty := by
  obtain ⟨j, -, hj⟩ := Finset.exists_mem_eq_sup Finset.univ ⟨0, Finset.mem_univ _⟩ x
  exact ⟨j, Finset.mem_filter.mpr ⟨Finset.mem_univ _, hj.symm⟩⟩

/-- The least index of the greatest entry. -/
def pick (x : Row) : Fin 64 := (hits x).min' (hits_nonempty x)

/-- The row without its greatest entry. -/
def drop (x : Row) : Row := fun j => if j = pick x then ⊥ else x j

/-- The row after `k` rounds. -/
def cur (x : Row) : ℕ → Row
  | 0 => x
  | k + 1 => drop (cur x k)

/-- The index round `k` takes. -/
def sel (x : Row) (k : ℕ) : Fin 64 := pick (cur x k)

/-- No entry exceeds the greatest. -/
theorem le_top (x : Row) (j : Fin 64) : x j ≤ top x := Finset.le_sup (Finset.mem_univ j)

/-- The picked entry is the greatest. -/
theorem apply_pick (x : Row) : x (pick x) = top x :=
  (Finset.mem_filter.mp (Finset.min'_mem (hits x) (hits_nonempty x))).2

/-- The picked index is the least. -/
theorem pick_le (x : Row) (j : Fin 64) (h : x j = top x) : pick x ≤ j :=
  Finset.min'_le (hits x) j (Finset.mem_filter.mpr ⟨Finset.mem_univ _, h⟩)

/-- After `k` rounds the row is the row with the taken entries removed. -/
theorem cur_apply (x : Row) (k : ℕ) (j : Fin 64) : cur x k j = if ∃ i < k, sel x i = j then ⊥ else x j := by
  induction k with
  | zero => simp [cur]
  | succ k ih =>
    show (if j = sel x k then ⊥ else cur x k j) = _
    by_cases h : j = sel x k
    · rw [if_pos h, if_pos ⟨k, Nat.lt_succ_self k, h.symm⟩]
    · rw [if_neg h, ih]
      refine if_congr ⟨fun ⟨i, hi, e⟩ => ⟨i, Nat.lt_succ_of_lt hi, e⟩, fun ⟨i, hi, e⟩ => ?_⟩ rfl rfl
      rcases Nat.lt_succ_iff_lt_or_eq.mp hi with hi | rfl
      · exact ⟨i, hi, e⟩
      · exact absurd e.symm h

/-- Fewer than 64 rounds leave some index. -/
theorem exists_left (x : Row) (k : ℕ) (hk : k < 64) : ∃ j, ¬∃ i < k, sel x i = j := by
  by_contra hall
  push Not at hall
  have hsub : (Finset.univ : Finset (Fin 64)) ⊆ (Finset.range k).image (sel x) := fun j _ => by
    obtain ⟨i, hi, e⟩ := hall j
    exact Finset.mem_image.mpr ⟨i, Finset.mem_range.mpr hi, e⟩
  have h1 := Finset.card_le_card hsub
  have h2 := Finset.card_image_le (s := Finset.range k) (f := sel x)
  rw [Finset.card_univ, Fintype.card_fin] at h1
  rw [Finset.card_range] at h2
  omega

variable {x : Row} (hx : ∀ j, x j ≠ ⊥)
include hx

/-- What a round takes, no earlier round took. -/
theorem sel_new (k : ℕ) (hk : k < 64) : ¬∃ i < k, sel x i = sel x k := by
  intro h
  obtain ⟨j, hj⟩ := exists_left x k hk
  have h1 : cur x k (sel x k) = ⊥ := by rw [cur_apply, if_pos h]
  have h2 : cur x k j = x j := by rw [cur_apply, if_neg hj]
  have h3 := le_top (cur x k) j
  rw [← apply_pick, h2] at h3
  exact hx j (le_bot_iff.mp (h3.trans h1.le))

/-- A round's greatest entry is the row's own entry at the index it takes. -/
theorem top_cur (k : ℕ) (hk : k < 64) : top (cur x k) = x (sel x k) := by
  rw [← apply_pick]
  show cur x k (sel x k) = _
  rw [cur_apply, if_neg (sel_new hx k hk)]

/-- Two rounds take two indices. -/
theorem sel_ne {i k : ℕ} (hik : i < k) (hk : k < 64) : sel x i ≠ sel x k := fun e => sel_new hx k hk ⟨i, hik, e⟩

/-- Nothing left after `k` rounds exceeds what round `k` takes; at an equal entry the taken index is the lesser. -/
theorem sel_best (k : ℕ) (hk : k < 64) (j : Fin 64) (hj : ¬∃ i < k, sel x i = j) :
    x j ≤ x (sel x k) ∧ (x j = x (sel x k) → sel x k ≤ j) := by
  have h2 : cur x k j = x j := by rw [cur_apply, if_neg hj]
  refine ⟨by rw [← top_cur hx k hk, ← h2]; exact le_top _ _, fun e => pick_le _ _ ?_⟩
  rw [h2, e, top_cur hx k hk]

/-- What is taken descends. -/
theorem sel_anti {i k : ℕ} (hik : i ≤ k) (hk : k < 64) : x (sel x k) ≤ x (sel x i) := by
  rcases Nat.lt_or_eq_of_le hik with h | rfl
  · refine (sel_best hx i (h.trans hk) (sel x k) ?_).1
    rintro ⟨j, hj, e⟩
    exact sel_ne hx (hj.trans h) hk e
  · exact le_rfl

omit hx in
/-- A stable sort of ascending positions may break ties by position. -/
theorem stableSort_tie {n : ℕ} (R : Fin n → Fin n → Bool) (T : Fin n → Fin n → Prop) [∀ a b, Decidable (T a b)] (l : List (Fin n))
    (hl : l.Pairwise (· < ·)) :
    stableSort R l = stableSort (fun a b => R a b || (decide (T a b) && decide (a < b))) l := by
  induction l with
  | nil => rfl
  | cons a l ih =>
    have hl' := List.pairwise_cons.mp hl
    unfold stableSort
    rw [← ih hl'.2]
    refine insertBefore_congr _ _ a _ fun b hb => ?_
    have hab : a < b := hl'.1 b ((perm_stableSort R l).mem_iff.mp hb)
    simp [not_lt_of_gt hab]

omit hx in
/-- So does the position it puts at a place. -/
theorem sortedFrom_tie {n : ℕ} (R : Fin n → Fin n → Bool) (T : Fin n → Fin n → Prop) [∀ a b, Decidable (T a b)] :
    sortedFrom R = sortedFrom (fun a b => R a b || (decide (T a b) && decide (a < b))) := by
  funext k
  have e : sortPositions n R = sortPositions n (fun a b => R a b || (decide (T a b) && decide (a < b))) :=
    stableSort_tie R T _ (List.pairwise_lt_finRange n)
  unfold sortedFrom
  rw [List.get_of_eq e]
  rfl

/-- A stable descending sort of the row begins with the rounds' indices. -/
theorem sortedFrom_sel (R : Fin 64 → Fin 64 → Bool) (hR : ∀ a b, R a b = decide (x b < x a)) (i : Fin 8) :
    sortedFrom R (i.castLE (by decide)) = sel x i := by
  let B : Fin 64 → Fin 64 → Bool := fun a b => R a b || (decide (x a = x b) && decide (a < b))
  have hRB : sortedFrom R = sortedFrom B := sortedFrom_tie R fun a b => x a = x b
  rw [hRB]
  have hB : StrictTotalBefore B := by
    have := StrictTotalBefore.of_key_then_position (n := 64) (fun a b : EReal => decide (b < a)) x (fun a => by simp)
      (fun a b c h1 h2 => by simp only [decide_eq_true_eq] at *; exact h2.trans h1)
      (fun a b => by
        simp only [decide_eq_true_eq]
        rcases lt_trichotomy a b with h | h | h
        · exact .inr (.inr h)
        · exact .inr (.inl h)
        · exact .inl h)
    have e : B = fun k k' : Fin 64 => decide (x k' < x k) || (decide (x k = x k') && decide (k < k')) := by
      funext a b; simp only [B, hR]
    rw [e]; exact this
  have hBfalse : ∀ a b, B a b = false ↔ x a ≤ x b ∧ (x a = x b → b ≤ a) := fun a b => by
    simp only [B, hR, Bool.or_eq_false_iff, Bool.and_eq_false_iff, decide_eq_false_iff_not, not_lt]
    constructor
    · rintro ⟨h1, h2⟩
      exact ⟨h1, fun e => h2.resolve_left fun h => h e⟩
    · rintro ⟨h1, h2⟩
      exact ⟨h1, by by_cases e : x a = x b; exacts [.inr (h2 e), .inl e]⟩
  refine hB.sortedFrom_eq_of_prefix (k := 8) (by decide) (fun i => sel x i) ?_ ?_ ?_ i
  · intro a b hab
    rcases lt_trichotomy a.val b.val with h | h | h
    · exact absurd hab (sel_ne hx h (by omega))
    · exact Fin.ext h
    · exact absurd hab.symm (sel_ne hx h (by omega))
  · intro a b hab
    refine (hBfalse _ _).mpr (sel_best hx a (by omega) _ ?_)
    rintro ⟨j, hj, e⟩
    exact sel_ne hx (hj.trans hab) (by omega) e
  · intro a p hp
    refine (hBfalse _ _).mpr (sel_best hx a (by omega) _ ?_)
    rintro ⟨j, hj, e⟩
    exact hp ⟨j, by omega⟩ e

omit hx in
/-- Sorting eight descending values upwards and reading the result backwards gives them back. -/
theorem resort (z : Fin 8 → EReal) (hz : ∀ i j : Fin 8, i ≤ j → z j ≤ z i) (R : Fin 8 → Fin 8 → Bool)
    (hR : ∀ a b, R a b = decide (z a < z b)) (i : Fin 8) : z (sortedFrom R i.rev) = z i := by
  have hmono : ∀ a b : Fin 8, a ≤ b → z (sortedFrom R a) ≤ z (sortedFrom R b) := by
    intro a b hab
    rcases hab.lt_or_eq with h | rfl
    · have := sortedFrom_noInversion R R (fun a b h => by rw [hR] at *; simp at *; exact h.le) (fun _ _ h => h)
        (fun a b c h1 h2 => by rw [hR] at *; simp at *; exact h2.trans h1) a b h
      rw [hR] at this
      simpa using this
    · exact le_rfl
  -- both sides list the values in descending order
  have hperm : (List.ofFn fun k : Fin 8 => z (sortedFrom R k.rev)).Perm (List.ofFn z) := by
    have e : Function.Bijective fun k : Fin 8 => sortedFrom R k.rev :=
      (Finite.injective_iff_bijective).mp ((sortedFrom_injective R).comp Fin.rev_injective)
    rw [List.ofFn_eq_map, List.ofFn_eq_map, show (fun k : Fin 8 => z (sortedFrom R k.rev)) = z ∘ (fun k => sortedFrom R k.rev) from rfl,
      ← List.map_map]
    refine List.Perm.map _ ((List.perm_ext_iff_of_nodup ?_ (List.nodup_finRange 8)).mpr fun p => ?_)
    · exact (List.nodup_finRange 8).map e.1
    · simp only [List.mem_finRange, iff_true, List.mem_map, true_and]
      exact e.2 p
  have hl : List.ofFn (fun k : Fin 8 => z (sortedFrom R k.rev)) = List.ofFn z := by
    refine List.Perm.eq_of_pairwise (le := fun a b : EReal => b ≤ a) (fun a b _ _ h1 h2 => le_antisymm h2 h1) ?_ ?_ hperm
    · refine List.pairwise_ofFn.mpr fun a b hab => hmono _ _ ?_
      exact Fin.rev_le_rev.mpr hab.le
    · exact List.pairwise_ofFn.mpr fun a b hab => hz a b hab.le
  exact congrFun (List.ofFn_injective hl) i

end Cert.Row

end
-- ==== Proof.KernelRows.lean ====
/-
  The kernel's rounds, read at an index over the extended reals.

  `rowMax`, `rowHit`, `rowDrop` at row `r` are `Row.top`, `Row.pick`, `Row.drop` of the row `r` of logits (`rowMax_apply`,
  `rowHit_apply`, `row_rowDrop`), so eight rounds are `Row.cur` and the one-hot row of round `k` marks `Row.sel` (`row_rowCur`,
  `rowHot_apply`).
-/
module

public import proofs.«01_k».proof.Proof.KernelBody
public import proofs.«01_k».proof.Proof.Row
public import Idealize.ShloMosaic.PureOps.Ideal.Laws
public import Idealize.ShloMosaic.Lib.IdealHost
public import Idealize.ShloMosaic.Lib.MatmulPlain
public import Idealize.ShloMosaic.Lib.ValueIdx
public import Idealize.ShloMosaic.Lib.ValueIdxCoords
public import Idealize.ShloMosaic.Lib.ValueLayout
public import Idealize.ShloMosaic.Lib.ValueLayoutCasts
public import Idealize.ShloMosaic.Lib.WordArith

@[expose] public section

set_option maxRecDepth 16384

noncomputable section

namespace Cert.KernelIdeal.Run

open Idealize.ShloMosaic Idealize.ShloMosaic.TcCoe Idealize.ShloMosaic.ValueIdx
open Cert.KernelIdeal.Gen Cert.Row

/-- Row `r` of a block of logits. -/
abbrev row (lg : FVec Ideal S256x64 .f32) (r : Fin 256) : Row := fun j => lg (ix2 r j)

/-- The word of `-∞` is the least extended real. -/
theorem ofBits_negInf : Ideal.ofBits .f32 0xFF800000#32 = ⊥ := by simp [Ideal.ofBits, Ideal.ieee]

/-- Folding a maximum from the least element is the supremum. -/
theorem fold_max_bot (f : Fin 64 → EReal) : (Finset.univ : Finset (Fin 64)).fold max ⊥ f = top f := rfl

/-- The column of row maxima. -/
theorem rowMax_apply (lg : FVec Ideal S256x64 .f32) (r : Fin 256) (u : Fin 1) : rowMax lg (ix2 r u) = top (row lg r) := by
  unfold rowMax
  rw [shapeCast_a_a1_apply]
  refine (Ideal.multiReduction_maximumf_single _ _ _ _ _ _).trans ?_
  rw [show FloatOps.ofBits (F := Ideal) .f32 0xFF800000#32 = ⊥ from ofBits_negInf]
  refine Eq.trans ?_ (fold_max_bot _)
  refine congrArg (fun f => (Finset.univ : Finset (Fin 64)).fold max ⊥ f) (funext fun k => congrArg lg (funext fun a => Fin.ext ?_))
  match a with
  | ⟨0, _⟩ => rfl
  | ⟨1, _⟩ => rfl

/-- The signed minimum of words below `2 ^ 31` is the minimum of their numbers. -/
theorem toNat_fold_minsi (s : Finset (Fin 64)) (f : Fin 64 → BitVec 32) (hf : ∀ j, (f j).toNat < 2 ^ 31) :
    (s.fold IKind.minsi.op 2147483647#32 f).toNat = s.fold min 2147483647 (fun j => (f j).toNat)
      ∧ s.fold min 2147483647 (fun j => (f j).toNat) < 2 ^ 31 := by
  classical
  induction s using Finset.induction with
  | empty => exact ⟨rfl, by rw [Finset.fold_empty]; decide⟩
  | insert a s ha ih =>
    rw [Finset.fold_insert ha, Finset.fold_insert ha]
    have h := WordArith.toNat_minsi_of_lt (f a) (s.fold IKind.minsi.op 2147483647#32 f) (hf a) (by rw [ih.1]; exact ih.2)
    refine ⟨h.trans (by rw [ih.1]), lt_of_le_of_lt (min_le_left _ _) (hf a)⟩

/-- The kernel's candidate word at an index. -/
theorem rowWhere_apply (lg : FVec Ideal S256x64 .f32) (r : Fin 256) (j : Fin 64) :
    rowWhere lg (ix2 r j) = if lg (ix2 r j) = top (row lg r) then BitVec.ofNat 32 j.val else 64#32 := by
  unfold rowWhere
  rw [select_apply, cmpf_apply, Ideal.cmpf_def]
  rw [broadcastTo_apply (rowMax lg) broadcasts_S256x1_S256x64 (ix2 r j) (ix2 r u0) (fun a => by
    match a with
    | ⟨0, _⟩ => rfl
    | ⟨1, _⟩ => rfl), rowMax_apply]
  have hl : lanes (ix2 r j) = BitVec.ofNat 32 j.val := iota_single_apply _ _ _ _ _ _
  rw [hl]
  by_cases h : lg (ix2 r j) = top (row lg r)
  · rw [if_pos h]
    unfold Ideal.cmp
    simp [h, Scalar.select]
  · rw [if_neg h, broadcast_apply]
    unfold Ideal.cmp
    simp [h, Scalar.select]

/-- The least candidate is the picked index. -/
theorem rowLeast (lg : FVec Ideal S256x64 .f32) (r : Fin 256) :
    multiReductionI .minsi [1] S256 (rowWhere lg) 2147483647#32 reduces_S256x64_S256 rfl (ix1 r)
      = BitVec.ofNat 32 (pick (row lg r)).val := by
  refine ((multiReductionI_eq_fold _ _ _ _ _ _).trans (reduces_S256x64_S256.fold_filter_drop_single _ _ _ _)).trans ?_
  have e : (rowWhere lg ∘ reduces_S256x64_S256.lift (ix1 r)) = fun j : Fin 64 =>
      if lg (ix2 r j) = top (row lg r) then BitVec.ofNat 32 j.val else 64#32 := by
    funext j
    refine Eq.trans ?_ (rowWhere_apply lg r j)
    refine congrArg (rowWhere lg) (funext fun a => Fin.ext ?_)
    match a with
    | ⟨0, _⟩ => rfl
    | ⟨1, _⟩ => rfl
  show (Finset.univ : Finset (Fin 64)).fold _ _ (rowWhere lg ∘ reduces_S256x64_S256.lift (ix1 r)) = _
  rw [e]
  have hw : ∀ j : Fin 64, (if lg (ix2 r j) = top (row lg r) then BitVec.ofNat 32 j.val else 64#32).toNat
      = if lg (ix2 r j) = top (row lg r) then j.val else 64 := fun j => by
    split
    · rw [BitVec.toNat_ofNat]; omega
    · rfl
  have hlt : ∀ j : Fin 64, (if lg (ix2 r j) = top (row lg r) then BitVec.ofNat 32 j.val else 64#32).toNat < 2 ^ 31 := fun j => by
    rw [hw]; split <;> omega
  have h := (toNat_fold_minsi Finset.univ _ hlt).1
  apply BitVec.eq_of_toNat_eq
  refine h.trans ?_
  simp only [hw]
  rw [BitVec.toNat_ofNat, Nat.mod_eq_of_lt (by omega)]
  apply le_antisymm
  · refine Finset.fold_min_le _ |>.mpr (Or.inr ⟨pick (row lg r), Finset.mem_univ _, ?_⟩)
    rw [if_pos (apply_pick (row lg r))]
  · refine Finset.le_fold_min _ |>.mpr ⟨by omega, fun j _ => ?_⟩
    split
    · next h => exact pick_le (row lg r) j h
    · omega

/-- The mark of the picked index. -/
theorem rowHit_apply (lg : FVec Ideal S256x64 .f32) (r : Fin 256) (j : Fin 64) :
    rowHit lg (ix2 r j) = BitVec.ofBool (decide (j = pick (row lg r))) := by
  unfold rowHit
  show IntOp.cmpi .eq (lanes (ix2 r j)) _ = _
  rw [broadcastTo_apply _ broadcasts_S256x1_S256x64 (ix2 r j) (ix2 r u0) (fun a => by
    match a with
    | ⟨0, _⟩ => rfl
    | ⟨1, _⟩ => rfl), shapeCast_a_a1_apply, rowLeast]
  have hl : lanes (ix2 r j) = BitVec.ofNat 32 j.val := iota_single_apply _ _ _ _ _ _
  rw [hl]
  show BitVec.ofBool (BitVec.ofNat 32 j.val == BitVec.ofNat 32 (pick (row lg r)).val) = _
  congr 1
  rw [Bool.eq_iff_iff, beq_iff_eq, decide_eq_true_eq]
  constructor
  · intro e
    have := congrArg BitVec.toNat e
    rw [BitVec.toNat_ofNat, BitVec.toNat_ofNat, Nat.mod_eq_of_lt (by omega), Nat.mod_eq_of_lt (by omega)] at this
    exact Fin.ext this
  · rintro rfl; rfl

/-- Removing the marked entries is `Row.drop`. -/
theorem row_rowDrop (lg : FVec Ideal S256x64 .f32) (r : Fin 256) : row (rowDrop lg) r = drop (row lg r) := by
  funext j
  show rowDrop lg (ix2 r j) = _
  unfold rowDrop
  rw [select_apply, rowHit_apply]
  unfold drop
  by_cases h : j = pick (row lg r)
  · rw [if_pos h, h]; simp only [decide_true]; exact ofBits_negInf
  · rw [if_neg h]; simp only [h, decide_false]; rfl

/-- The rounds are `Row.cur`. -/
theorem row_rowCur (lg : FVec Ideal S256x64 .f32) (r : Fin 256) (k : ℕ) : row (rowCur lg k) r = cur (row lg r) k := by
  induction k with
  | zero => rfl
  | succ k ih => exact (row_rowDrop _ r).trans (congrArg drop ih)

/-- The one-hot row of round `k` marks the index it takes. -/
theorem rowHot_apply (lg : FVec Ideal S256x64 .f32) (r : Fin 256) (k : ℕ) (j : Fin 64) :
    rowHot (rowCur lg k) (ix2 r j) = if j = sel (row lg r) k then (1 : EReal) else 0 := by
  unfold rowHot
  rw [sitofp_apply, extui_apply, rowHit_apply, row_rowCur]
  show FloatOps.sitofp .f32 (BitVec.setWidth 32 (BitVec.ofBool (decide (j = sel (row lg r) k)))) = _
  by_cases h : j = sel (row lg r) k
  · rw [if_pos h, decide_eq_true h]
    show (((BitVec.setWidth 32 (BitVec.ofBool true)).toInt : ℝ) : EReal) = 1
    rw [show (BitVec.setWidth 32 (BitVec.ofBool true)).toInt = 1 by decide]; simp
  · rw [if_neg h, decide_eq_false h]
    show (((BitVec.setWidth 32 (BitVec.ofBool false)).toInt : ℝ) : EReal) = 0
    rw [show (BitVec.setWidth 32 (BitVec.ofBool false)).toInt = 0 by decide]; simp

end Cert.KernelIdeal.Run

end
-- ==== Proof.Spec.lean ====
/-
  The loss as a function of extended reals.

  `cz`, `count`, `tau`, `prob`: the sparsemax of eight numbers.  `ent`: the negated entropy of its weights.  Of eight real numbers
  the threshold, the weights and the entropy are real, and the weights not negative (`tau_real`, `prob_real`, `ent_real`).
  `combine`: the blockwise sum of entropy parts and weighed losses, divided once, is the sum of the mean loss and the entropy loss.
-/
module

public import Idealize.ShloMosaic.PureOps.Ideal
public import Idealize.ShloMosaic.Lib.IdealHost
public import Mathlib.Data.EReal.Inv
public import Mathlib.Algebra.BigOperators.Fin
public import proofs.«01_k».proof.Proof.Row

@[expose] public section

noncomputable section

namespace Cert.Row

open Idealize.ShloMosaic

/-! ## Sparsemax -/

/-- The sum of the first entries, up to entry `k`. -/
def cz (z : Fin 8 → EReal) (k : Fin 8) : EReal := ∑ i ∈ Finset.univ.filter (· ≤ k), z i

/-- Entry `k` passes the threshold test. -/
def ok (z : Fin 8 → EReal) (k : Fin 8) : Prop := cz z k < 1 + (((k.val + 1 : ℕ) : ℝ) : EReal) * z k

open Classical in
/-- How many entries pass. -/
def count (z : Fin 8 → EReal) : ℕ := (Finset.univ.filter (ok z)).card

/-- The threshold. -/
def tau (z : Fin 8 → EReal) : EReal := Ideal.div (cz z (Fin.ofNat 8 (count z - 1)) - 1) ((count z : ℝ) : EReal)

/-- The weights. -/
def prob (z : Fin 8 → EReal) (k : Fin 8) : EReal := max (z k - tau z) 0

open Classical in
/-- A term of the negated entropy. -/
def plogp (p : EReal) : EReal := p * Ideal.log (if 0 < p then p else 1)

/-- The negated entropy. -/
def ent (z : Fin 8 → EReal) : EReal := ∑ k, plogp (prob z k)

/-- A finite sum of reals is real. -/
theorem sum_real {ι : Type*} (s : Finset ι) (f : ι → EReal) (hf : ∀ i, ∃ r : ℝ, f i = r) : ∃ r : ℝ, ∑ i ∈ s, f i = r := by
  choose g hg using hf
  classical
  refine ⟨∑ i ∈ s, g i, ?_⟩
  induction s using Finset.induction with
  | empty => simp
  | insert a s ha ih => rw [Finset.sum_insert ha, Finset.sum_insert ha, ih, hg, EReal.coe_add]

/-- A quotient of reals by a number other than zero is real. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- At most eight entries pass. -/
theorem count_le (z : Fin 8 → EReal) : count z ≤ 8 := by
  unfold count
  exact (Finset.card_le_univ _).trans (by simp)

/-- The first entry passes, if it is real. -/
theorem count_pos (z : Fin 8 → EReal) (hz : ∀ k, ∃ r : ℝ, z k = r) : 1 ≤ count z := by
  classical
  obtain ⟨r, hr⟩ := hz 0
  unfold count
  refine Finset.card_pos.mpr ⟨0, Finset.mem_filter.mpr ⟨Finset.mem_univ _, ?_⟩⟩
  unfold ok cz
  rw [show (Finset.univ.filter fun i : Fin 8 => i ≤ 0) = {0} by decide, Finset.sum_singleton, hr]
  simp only [Fin.val_zero, zero_add, Nat.cast_one, EReal.coe_one, one_mul]
  exact_mod_cast lt_one_add r

/-- The threshold of reals is real. -/
theorem tau_real (z : Fin 8 → EReal) (hz : ∀ k, ∃ r : ℝ, z k = r) : ∃ r : ℝ, tau z = r := by
  obtain ⟨a, ha⟩ := sum_real (Finset.univ.filter fun i : Fin 8 => i ≤ Fin.ofNat 8 (count z - 1)) z hz
  have hc := count_pos z hz
  refine ⟨(a - 1) / (count z : ℝ), ?_⟩
  unfold tau cz
  rw [ha, show ((a : EReal) - 1) = ((a - 1 : ℝ) : EReal) by push_cast; rfl]
  exact div_real _ _ (by exact_mod_cast (by omega : count z ≠ 0))

/-- The weights of reals are real and not negative. -/
theorem prob_real (z : Fin 8 → EReal) (hz : ∀ k, ∃ r : ℝ, z k = r) (k : Fin 8) : ∃ r : ℝ, 0 ≤ r ∧ prob z k = r := by
  obtain ⟨t, ht⟩ := tau_real z hz
  obtain ⟨a, ha⟩ := hz k
  refine ⟨max (a - t) 0, le_max_right _ _, ?_⟩
  unfold prob
  rw [ht, ha, ← EReal.coe_sub, ← EReal.coe_zero]
  exact (EReal.coe_strictMono.monotone.map_max).symm

/-- The entropy of reals is real. -/
theorem ent_real (z : Fin 8 → EReal) (hz : ∀ k, ∃ r : ℝ, z k = r) : ∃ r : ℝ, ent z = r := by
  refine sum_real _ _ fun k => ?_
  obtain ⟨p, hp, e⟩ := prob_real z hz k
  rw [e]
  unfold plogp
  by_cases h : (0 : EReal) < (p : EReal)
  · rw [if_pos h]
    have h' : ¬p ≤ 0 := not_le.mpr (by exact_mod_cast h)
    refine ⟨p * Real.log p, ?_⟩
    show (p : EReal) * (if p ≤ 0 then ⊥ else (Real.log p : EReal)) = _
    rw [if_neg h', EReal.coe_mul]
  · rw [if_neg h]
    refine ⟨p * Real.log 1, ?_⟩
    show (p : EReal) * (if (1 : ℝ) ≤ 0 then ⊥ else (Real.log 1 : EReal)) = _
    rw [if_neg (by norm_num), EReal.coe_mul]

/-! ## Squares -/

/-- A square is not negative. -/
theorem sq_nonneg' (x : EReal) : 0 ≤ x * x := by
  induction x with
  | bot => simp
  | top => simp
  | coe r => rw [← EReal.coe_mul]; exact_mod_cast mul_self_nonneg r

/-- The decoder's squared error of a row: of the code `s`, with `u` what the decoder input brings to the hidden layer. -/
def sqErr (u : Fin 2048 → EReal) (s : Fin 64) (lab : Fin 1024 → EReal) (w1 : Fin 64 → Fin 2048 → EReal)
    (w2 : Fin 2048 → Fin 1024 → EReal) : EReal :=
  ∑ o, ((∑ f, max (u f + ∑ l, (if l = s then (1 : EReal) else 0) * w1 l f) 0 * w2 f o) - lab o)
    * ((∑ f, max (u f + ∑ l, (if l = s then (1 : EReal) else 0) * w1 l f) 0 * w2 f o) - lab o)

/-- It is not negative. -/
theorem sqErr_nonneg (u : Fin 2048 → EReal) (s : Fin 64) (lab : Fin 1024 → EReal) (w1 : Fin 64 → Fin 2048 → EReal)
    (w2 : Fin 2048 → Fin 1024 → EReal) : 0 ≤ sqErr u s lab w1 w2 :=
  Finset.sum_nonneg fun _ _ => sq_nonneg' _

/-! ## The arrays -/

/-- The eight argument arrays, by row and column. -/
structure Inputs where
  /-- The encoder's input. -/
  X : Fin 2048 → Fin 1024 → EReal
  /-- The decoder's input. -/
  U : Fin 2048 → Fin 1024 → EReal
  /-- The labels. -/
  L : Fin 2048 → Fin 1024 → EReal
  /-- The encoder's matrix. -/
  W : Fin 1024 → Fin 64 → EReal
  /-- The encoder's bias. -/
  b : Fin 64 → EReal
  /-- The first layer's matrix on the code. -/
  W1 : Fin 64 → Fin 2048 → EReal
  /-- The first layer's matrix on the decoder's input. -/
  Wu : Fin 1024 → Fin 2048 → EReal
  /-- The second layer's matrix. -/
  W2 : Fin 2048 → Fin 1024 → EReal

namespace Inputs

variable (d : Inputs)

/-- The logits of row `n`. -/
def logit (n : Fin 2048) : Row := fun j => (∑ i, d.X n i * d.W i j) + d.b j

/-- What the decoder's input brings to the hidden layer at row `n`. -/
def hid (n : Fin 2048) (f : Fin 2048) : EReal := ∑ i, d.U n i * d.Wu i f

/-- The chosen logits of row `n`, the largest first. -/
def z (n : Fin 2048) (k : Fin 8) : EReal := d.logit n (sel (d.logit n) k.val)

/-- The mean squared error of row `n` with its `k`-th code. -/
def q (n : Fin 2048) (k : Fin 8) : EReal :=
  Ideal.div (sqErr (d.hid n) (sel (d.logit n) k.val) (d.L n) d.W1 d.W2) ((1024 : ℝ) : EReal)

end Inputs

/-! ## The literals -/

/-- The entropy coefficient's word. -/
theorem ofBits_coeff : ∃ c : ℝ, Ideal.ofBits .f32 0x3C23D70A#32 = (c : EReal) ∧ Ideal.ofBits .f32 0xBC23D70A#32 = ((-c : ℝ) : EReal) := by
  refine ⟨((2 ^ 23 + 2348810 : ℕ) : ℝ) * (2 : ℝ) ^ (-30 : ℤ), ?_, ?_⟩
  · simp [Ideal.ofBits, Ideal.ieee]
  · simp [Ideal.ofBits, Ideal.ieee]

/-- The word of 1/1024. -/
theorem ofBits_inv1024 : Ideal.ofBits .f32 0x3A800000#32 = (((1 : ℝ) / 1024 : ℝ) : EReal) := by
  simp [Ideal.ofBits, Ideal.ieee]
  rw [← EReal.coe_mul]; congr 1; norm_num

/-- The word of 1024. -/
theorem ofBits_1024 : Ideal.ofBits .f32 0x44800000#32 = ((1024 : ℝ) : EReal) := by
  simp [Ideal.ofBits, Ideal.ieee]
  rw [← EReal.coe_mul]; congr 1; norm_num

/-- The word of 2048. -/
theorem ofBits_2048 : Ideal.ofBits .f32 0x45000000#32 = ((2048 : ℝ) : EReal) := by
  simp [Ideal.ofBits, Ideal.ieee]
  rw [← EReal.coe_mul]; congr 1; norm_num

/-- Times 1/1024 is divided by 1024. -/
theorem mul_inv1024 (x : EReal) : x * (((1 : ℝ) / 1024 : ℝ) : EReal) = Ideal.div x ((1024 : ℝ) : EReal) := by
  unfold Ideal.div
  rw [if_neg (by norm_num), ← EReal.coe_inv, one_div]

/-- A quotient by 1024 of what is not negative is not negative. -/
theorem div1024_nonneg {x : EReal} (hx : 0 ≤ x) : 0 ≤ Ideal.div x ((1024 : ℝ) : EReal) := by
  rw [← mul_inv1024]
  exact mul_nonneg hx (by exact_mod_cast (by norm_num : (0 : ℝ) ≤ 1 / 1024))

/-! ## Putting the parts together -/

/-- The mean squared errors are not negative. -/
theorem q_nonneg (d : Inputs) (n : Fin 2048) (k : Fin 8) : 0 ≤ d.q n k := div1024_nonneg (sqErr_nonneg _ _ _ _ _)

/-- Real logits, real chosen logits. -/
theorem z_real (d : Inputs) (h : ∀ n j, ∃ r : ℝ, d.logit n j = r) (n : Fin 2048) (k : Fin 8) : ∃ r : ℝ, d.z n k = r := h n _

/-- A real plus something not negative, divided: the two quotients' sum. -/
theorem add_div2048 (a : ℝ) (T : EReal) (hT : 0 ≤ T) :
    Ideal.div ((a : EReal) + T) ((2048 : ℝ) : EReal) = Ideal.div T ((2048 : ℝ) : EReal) + ((a / 2048 : ℝ) : EReal) := by
  have h2 : ((2048 : ℝ) : EReal) ≠ 0 := by norm_num
  unfold Ideal.div
  rw [if_neg h2, if_neg h2, ← EReal.coe_inv]
  induction T with
  | bot => simp at hT
  | top =>
    rw [EReal.coe_add_top, EReal.top_mul_coe_of_pos (by norm_num), EReal.top_add_coe]
  | coe t =>
    rw [← EReal.coe_add, ← EReal.coe_mul, ← EReal.coe_mul, ← EReal.coe_add]
    congr 1; ring

/-- Row `r` of block `t`. -/
abbrev at256 (t : Fin 8) (r : Fin 256) : Fin 2048 := ⟨256 * t.val + r.val, by omega⟩

/-- A sum over the rows is the blocks' sums. -/
theorem sum_blocks (f : Fin 2048 → EReal) : ∑ t : Fin 8, ∑ r : Fin 256, f (at256 t r) = ∑ n, f n := by
  rw [← Fintype.sum_prod_type' (f := fun t r => f (at256 t r))]
  refine Fintype.sum_equiv (finProdFinEquiv (m := 8) (n := 256)) _ _ fun p => ?_
  congr 1
  apply Fin.ext
  show 256 * p.1.val + p.2.val = p.2.val + 256 * p.1.val
  omega

/-- A block's number: its entropy part and its weighed losses. -/
def block (z : Fin 2048 → Fin 8 → EReal) (q : Fin 2048 → Fin 8 → EReal) (t : Fin 8) : EReal :=
  Ideal.ofBits .f32 0xBC23D70A#32 * (0 - ∑ r : Fin 256, ent (z (at256 t r)))
    + ∑ k : Fin 8, ∑ r : Fin 256, prob (z (at256 t r)) k * q (at256 t r) k

/-- The blocks' numbers summed and divided by 2048 are the mean weighed loss and the entropy loss. -/
theorem combine (z : Fin 2048 → Fin 8 → EReal) (q : Fin 2048 → Fin 8 → EReal) (hz : ∀ n k, ∃ r : ℝ, z n k = r) (hq : ∀ n k, 0 ≤ q n k) :
    Ideal.div (∑ t, block z q t) (Ideal.ofBits .f32 0x45000000#32)
      = Ideal.div (∑ n, ∑ k, prob (z n) k * q n k) (Ideal.ofBits .f32 0x45000000#32)
        + -(Ideal.div (∑ n, -(ent (z n))) (Ideal.ofBits .f32 0x45000000#32) * Ideal.ofBits .f32 0x3C23D70A#32) := by
  obtain ⟨c, hc, hc'⟩ := ofBits_coeff
  have he : ∀ n, ∃ r : ℝ, ent (z n) = r := fun n => ent_real _ (hz n)
  choose e he using he
  have hcoe : ∀ {ι : Type} (s : Finset ι) (f : ι → ℝ), ∑ i ∈ s, (f i : EReal) = ((∑ i ∈ s, f i : ℝ) : EReal) := fun s f => by
    classical
    induction s using Finset.induction with
    | empty => simp
    | insert a s ha ih => rw [Finset.sum_insert ha, Finset.sum_insert ha, ih, EReal.coe_add]
  have hT : 0 ≤ ∑ n, ∑ k, prob (z n) k * q n k := Finset.sum_nonneg fun n _ => Finset.sum_nonneg fun k _ =>
    mul_nonneg (le_max_right _ _) (hq n k)
  have hTb : ∑ t : Fin 8, ∑ k : Fin 8, ∑ r : Fin 256, prob (z (at256 t r)) k * q (at256 t r) k = ∑ n, ∑ k, prob (z n) k * q n k := by
    rw [← sum_blocks]
    exact Finset.sum_congr rfl fun t _ => Finset.sum_comm
  have hE : ∑ t : Fin 8, Ideal.ofBits .f32 0xBC23D70A#32 * (0 - ∑ r : Fin 256, ent (z (at256 t r))) = ((c * ∑ n, e n : ℝ) : EReal) := by
    have h1 : ∀ t : Fin 8, Ideal.ofBits .f32 0xBC23D70A#32 * (0 - ∑ r : Fin 256, ent (z (at256 t r)))
        = ((c * ∑ r : Fin 256, e (at256 t r) : ℝ) : EReal) := fun t => by
      simp only [he]
      rw [hcoe, hc', ← EReal.coe_zero, ← EReal.coe_sub, ← EReal.coe_mul]
      congr 1; ring
    simp only [h1]
    rw [hcoe, ← Finset.mul_sum]
    have := sum_blocks fun n => (e n : EReal)
    simp only [hcoe] at this
    rw [EReal.coe_eq_coe_iff.mp this]
  have hN : ∑ n, -(ent (z n)) = ((-∑ n, e n : ℝ) : EReal) := by
    simp only [he, ← EReal.coe_neg]
    rw [hcoe, Finset.sum_neg_distrib]
  unfold block
  rw [Finset.sum_add_distrib, hE, hTb, hN, hc, ofBits_2048, add_div2048 _ _ hT, div_real _ _ (by norm_num)]
  congr 1
  rw [← EReal.coe_mul, ← EReal.coe_neg]
  congr 1; ring

end Cert.Row

end
-- ==== Proof.KernelSum.lean ====
/-
  A block's number over the extended reals.

  The kernel's running sums, weights, entropy part and weighed losses, read at an index (`czs_apply`, `probs_apply`, `entropy_eq`,
  `rowLoss_apply`, `weigh_apply`), give the number a block adds (`blockSum_eq`).
-/
module

public import proofs.«01_k».proof.Proof.KernelRows
public import proofs.«01_k».proof.Proof.Spec

@[expose] public section

set_option maxRecDepth 16384

noncomputable section

namespace Cert.KernelIdeal.Run

open Idealize.ShloMosaic Idealize.ShloMosaic.TcCoe Idealize.ShloMosaic.ValueIdx
open Cert.KernelIdeal.Gen Cert.Row

/-- Row `r` of an array of eight columns. -/
abbrev row8 (z : FVec Ideal S256x8 .f32) (r : Fin 256) : Fin 8 → EReal := fun k => z (ix2 r k)

/-- Eight columns side by side, read at a column. -/
theorem beside_apply (f : Fin 8 → FVec Ideal S256x1 .f32)
    (h : Shape.Concatenates ((List.ofFn fun n : Fin 8 => (⟨S256x1, f n⟩ : (s : Shape) × (s.Idx → EReal))).map (·.1)) S256x8 1)
    (r : Fin 256) (k : Fin 8) :
    concatenate S256x8 1 (List.ofFn fun n : Fin 8 => (⟨S256x1, f n⟩ : (s : Shape) × (s.Idx → EReal))) h (ix2 r k) = f k (ix2 r u0) :=
  concatenate_ofFn_unit_apply (t := S256x8) (s₁ := S256x1) 1 f h rfl rfl (ix2 r k) k rfl (ix2 r u0) (fun b hb => by
    match b with
    | ⟨0, _⟩ => rfl
    | ⟨1, _⟩ => exact absurd rfl hb)

/-- The maxima of the rounds. -/
theorem zs_apply (lg : FVec Ideal S256x64 .f32) (r : Fin 256) (k : Fin 8) : zs lg (ix2 r k) = top (cur (row lg r) k.val) := by
  refine (beside_apply (fun n => rowMax (rowCur lg n.val))
    concatenates_S256x1_S256x1_S256x1_S256x1_S256x1_S256x1_S256x1_S256x1_S256x8_d1 r k).trans ?_
  rw [rowMax_apply, row_rowCur]

/-- A column cut out. -/
theorem col_apply (z : FVec Ideal S256x8 .f32) (k : Fin 8) (h : S256x8.Slices ![0, k.val] S256x1) (r : Fin 256) (u : Fin 1) :
    extractStridedSlice S256x1 ![0, k.val] z h (ix2 r u) = z (ix2 r k) :=
  slice2_axis1_apply k.val z h r u k (by omega)

/-- The running sums. -/
theorem czs_apply (z : FVec Ideal S256x8 .f32) (r : Fin 256) (k : Fin 8) : czs z (ix2 r k) = cz (row8 z r) k := by
  refine (beside_apply ![run0 z, run1 z, run2 z, run3 z, run4 z, run5 z, run6 z, run7 z]
    concatenates_S256x1_S256x1_S256x1_S256x1_S256x1_S256x1_S256x1_S256x1_S256x8_d1 r k).trans ?_
  have step : ∀ (i j : Fin 8), j.val = i.val + 1 → cz (row8 z r) j = cz (row8 z r) i + z (ix2 r j) := fun i j hij => by
    unfold cz
    rw [show (Finset.univ.filter fun a : Fin 8 => a ≤ j) = insert j (Finset.univ.filter fun a : Fin 8 => a ≤ i) from by
      ext a; simp only [Finset.mem_filter, Finset.mem_univ, true_and, Finset.mem_insert, Fin.le_def, Fin.ext_iff]; omega,
      Finset.sum_insert (by simp only [Finset.mem_filter, Finset.mem_univ, true_and, Fin.le_def]; omega), add_comm]
  have c0 : run0 z (ix2 r u0) = cz (row8 z r) 0 := by
    unfold cz
    rw [show (Finset.univ.filter fun a : Fin 8 => a ≤ 0) = {0} by decide, Finset.sum_singleton]
    exact col_apply z 0 _ r u0
  have c1 : run1 z (ix2 r u0) = cz (row8 z r) 1 := by
    rw [step 0 1 rfl]; exact congrArg₂ (· + ·) c0 (col_apply z 1 slices_S256x8_o0_1_S256x1 r u0)
  have c2 : run2 z (ix2 r u0) = cz (row8 z r) 2 := by
    rw [step 1 2 rfl]; exact congrArg₂ (· + ·) c1 (col_apply z 2 slices_S256x8_o0_2_S256x1 r u0)
  have c3 : run3 z (ix2 r u0) = cz (row8 z r) 3 := by
    rw [step 2 3 rfl]; exact congrArg₂ (· + ·) c2 (col_apply z 3 slices_S256x8_o0_3_S256x1 r u0)
  have c4 : run4 z (ix2 r u0) = cz (row8 z r) 4 := by
    rw [step 3 4 rfl]; exact congrArg₂ (· + ·) c3 (col_apply z 4 slices_S256x8_o0_4_S256x1 r u0)
  have c5 : run5 z (ix2 r u0) = cz (row8 z r) 5 := by
    rw [step 4 5 rfl]; exact congrArg₂ (· + ·) c4 (col_apply z 5 slices_S256x8_o0_5_S256x1 r u0)
  have c6 : run6 z (ix2 r u0) = cz (row8 z r) 6 := by
    rw [step 5 6 rfl]; exact congrArg₂ (· + ·) c5 (col_apply z 6 slices_S256x8_o0_6_S256x1 r u0)
  have c7 : run7 z (ix2 r u0) = cz (row8 z r) 7 := by
    rw [step 6 7 rfl]; exact congrArg₂ (· + ·) c6 (col_apply z 7 slices_S256x8_o0_7_S256x1 r u0)
  fin_cases k
  · exact c0
  · exact c1
  · exact c2
  · exact c3
  · exact c4
  · exact c5
  · exact c6
  · exact c7

/-- The numbers 1 to 8. -/
theorem ranks_apply (r : Fin 256) (k : Fin 8) : k0_pay37 (F := Ideal) (ix2 r k) = (((k.val + 1 : ℕ) : ℝ) : EReal) := by
  have hi : iota .tc S256x8 32 [1] iota_S256x8_d1_w32 (ix2 r k) = BitVec.ofNat 32 k.val := iota_single_apply _ _ _ _ _ _
  show ((((iota .tc S256x8 32 [1] iota_S256x8_d1_w32 (ix2 r k)).toInt : ℝ) : EReal) + Ideal.ofBits .f32 0x3F800000#32) = _
  rw [hi, Ideal.ofBits_one_f32, BitVec.toInt_eq_toNat_of_lt (by rw [BitVec.toNat_ofNat]; omega), BitVec.toNat_ofNat, Nat.mod_eq_of_lt (by omega)]
  push_cast
  rfl

/-- A comparison's flag as a number. -/
theorem flag (a b : EReal) : ((((BitVec.setWidth 32 (Ideal.cmp .ogt a b)).toInt : ℝ)) : EReal) = if b < a then 1 else 0 := by
  unfold Ideal.cmp
  by_cases h : b < a
  · rw [if_pos h]
    simp only [h, decide_true]
    rw [show (BitVec.setWidth 32 (BitVec.ofBool true)).toInt = 1 by decide]; simp
  · rw [if_neg h]
    simp only [h, decide_false]
    rw [show (BitVec.setWidth 32 (BitVec.ofBool false)).toInt = 0 by decide]; simp

/-- A sum along the eight columns. -/
theorem sum8_apply (x : FVec Ideal S256x8 .f32) (r : Fin 256) :
    multiReduction .add [1] S256 x 0x00000000#32 reduces_S256x8_S256 (.inl rfl) rfl (ix1 r) = ∑ k : Fin 8, x (ix2 r k) := by
  refine (Ideal.multiReduction_add_single _ _ _ _ _ _).trans (Finset.sum_congr rfl fun k _ => congrArg x (funext fun a => Fin.ext ?_))
  match a with
  | ⟨0, _⟩ => rfl
  | ⟨1, _⟩ => rfl

/-- A column spread over the eight columns. -/
theorem spread_apply (x : FVec Ideal S256x1 .f32) (r : Fin 256) (k : Fin 8) :
    broadcastTo S256x8 x broadcasts_S256x1_S256x8 (ix2 r k) = x (ix2 r u0) :=
  broadcastTo_apply x broadcasts_S256x1_S256x8 (ix2 r k) (ix2 r u0) (fun a => by
    match a with
    | ⟨0, _⟩ => rfl
    | ⟨1, _⟩ => rfl)

/-- Summed flags count the entries that pass. -/
theorem sum_flags (z : Fin 8 → EReal) :
    (∑ k : Fin 8, if cz z k < 1 + (((k.val + 1 : ℕ) : ℝ) : EReal) * z k then (1 : EReal) else 0) = ((count z : ℝ) : EReal) := by
  classical
  rw [Finset.sum_boole]
  unfold Row.count ok
  norm_cast

/-- The entry whose rank is the count is picked out by a sum. -/
theorem sum_pick (z : Fin 8 → EReal) (hz : ∀ k, ∃ r : ℝ, z k = r) :
    (∑ k : Fin 8, if (((k.val + 1 : ℕ) : ℝ) : EReal) = ((count z : ℝ) : EReal) then cz z k else 0) = cz z (Fin.ofNat 8 (count z - 1)) := by
  have h1 := count_pos z hz
  have h2 := count_le z
  rw [Finset.sum_eq_single (Fin.ofNat 8 (count z - 1))]
  · rw [if_pos]
    have : (Fin.ofNat 8 (count z - 1)).val + 1 = count z := by
      show (count z - 1) % 8 + 1 = count z
      omega
    rw [this]
  · intro b _ hb
    rw [if_neg]
    intro e
    refine hb (Fin.ext ?_)
    have : b.val + 1 = count z := by exact_mod_cast e
    show b.val = (count z - 1) % 8
    omega
  · intro h; exact absurd (Finset.mem_univ _) h

/-- The number of entries of a row that pass, as a column. -/
def passing (z : FVec Ideal S256x8 .f32) : FVec Ideal S256x1 .f32 :=
  shapeCast S256x1 (multiReduction .add [1] S256 (sitofp .f32 (extui 32 (cmpf .ogt (addf (broadcast S256x8 (Scalar.ofBits .f32 0x3F800000#32))
    (mulf k0_pay37 z)) (czs z)) natLt_1_32) : FVec Ideal S256x8 .f32) 0x00000000#32 reduces_S256x8_S256 (.inl rfl) rfl) shapeCasts_S256_S256x1

/-- The running sum at the last entry that passes, as a column. -/
def reached (z : FVec Ideal S256x8 .f32) : FVec Ideal S256x1 .f32 :=
  shapeCast S256x1 (multiReduction .add [1] S256 (select (cmpf .oeq k0_pay37 (broadcastTo S256x8 (passing z) broadcasts_S256x1_S256x8)) (czs z)
    (broadcast S256x8 (Scalar.ofBits .f32 0x00000000#32))) 0x00000000#32 reduces_S256x8_S256 (.inl rfl) rfl) shapeCasts_S256_S256x1

/-- The weights from those two columns. -/
theorem probs_eq (z : FVec Ideal S256x8 .f32) : probs z = maximumf (subf z (broadcastTo S256x8
    (divf (subf (reached z) (broadcast S256x1 (Scalar.ofBits .f32 0x3F800000#32))) (passing z)) broadcasts_S256x1_S256x8))
    (broadcast S256x8 (Scalar.ofBits .f32 0x00000000#32)) := rfl

/-- The first column counts. -/
theorem passing_apply (z : FVec Ideal S256x8 .f32) (r : Fin 256) (u : Fin 1) : passing z (ix2 r u) = ((count (row8 z r) : ℝ) : EReal) := by
  unfold passing
  rw [shapeCast_a_a1_apply, ← sum_flags]
  refine (sum8_apply _ r).trans (Finset.sum_congr rfl fun k _ => ?_)
  rw [sitofp_apply, extui_apply, cmpf_apply, addf_apply, mulf_apply, broadcast_apply, ranks_apply, czs_apply]
  exact (flag _ _).trans (by rw [show Scalar.ofBits (F := Ideal) .f32 0x3F800000#32 = 1 from Ideal.ofBits_one_f32])

/-- The second column is the running sum at that count. -/
theorem reached_apply (z : FVec Ideal S256x8 .f32) (r : Fin 256) (hz : ∀ k, ∃ x : ℝ, row8 z r k = x) (u : Fin 1) :
    reached z (ix2 r u) = cz (row8 z r) (Fin.ofNat 8 (count (row8 z r) - 1)) := by
  unfold reached
  rw [shapeCast_a_a1_apply, ← sum_pick _ hz]
  refine (sum8_apply _ r).trans (Finset.sum_congr rfl fun k _ => ?_)
  rw [select_apply, cmpf_apply, Ideal.cmpf_def, spread_apply, passing_apply, ranks_apply, czs_apply, broadcast_apply]
  unfold Ideal.cmp
  by_cases h : (((k.val + 1 : ℕ) : ℝ) : EReal) = ((count (row8 z r) : ℝ) : EReal)
  · rw [if_pos h]; simp only [h, decide_true]; rfl
  · rw [if_neg h]; simp only [h, decide_false]; exact Ideal.ofBits_zero_f32

/-- The weights are the sparsemax's. -/
theorem probs_apply (z : FVec Ideal S256x8 .f32) (r : Fin 256) (hz : ∀ k, ∃ x : ℝ, row8 z r k = x) (k : Fin 8) :
    probs z (ix2 r k) = prob (row8 z r) k := by
  rw [probs_eq, maximumf_apply, subf_apply, spread_apply, divf_apply, subf_apply, broadcast_apply, broadcast_apply, passing_apply,
    reached_apply z r hz]
  show max (z (ix2 r k) - Ideal.div (_ - Ideal.ofBits .f32 0x3F800000#32) _) (Ideal.ofBits .f32 0x00000000#32) = _
  rw [Ideal.ofBits_one_f32, Ideal.ofBits_zero_f32]
  rfl

/-- A triple's index is its two coordinates. -/
theorem sum_idx_1ab {a b : ℕ} (f : (⟨3, ![1, a, b]⟩ : Shape).Idx → EReal) : ∑ i, f i = ∑ x : Fin a, ∑ y : Fin b, f (ix3 u0 x y) := by
  rw [← Fintype.sum_prod_type' (f := fun x y => f (ix3 u0 x y))]
  refine (Fintype.sum_equiv (ι := Fin a × Fin b) (κ := (⟨3, ![1, a, b]⟩ : Shape).Idx)
    ⟨fun p => ix3 u0 p.1 p.2, fun i => (i 1, i 2), fun p => rfl, fun i => ?_⟩ _ _ fun p => rfl).symm
  funext d
  match d with
  | ⟨0, _⟩ => exact Subsingleton.elim (α := Fin 1) _ _
  | ⟨1, _⟩ => rfl
  | ⟨2, _⟩ => rfl

/-- The entropy part of a block. -/
theorem entropy_eq (z : FVec Ideal S256x8 .f32) (hz : ∀ r k, ∃ x : ℝ, row8 z r k = x) :
    k0_pay41 z (czs z) k0_pay37 (mulf k0_pay37 z) = Ideal.ofBits .f32 0xBC23D70A#32 * (0 - ∑ r : Fin 256, ent (row8 z r)) := by
  have hp : k0_pay39 z (czs z) k0_pay37 (mulf k0_pay37 z) = probs z := rfl
  unfold k0_pay41
  rw [hp]
  show Ideal.ofBits .f32 0xBC23D70A#32 * (Ideal.ofBits .f32 0x00000000#32 - extractAt _ (shapeCast S1x1x1 _ shapeCasts_S1_S1x1x1) inpos_S1x1x1_p0_0_0) = _
  rw [Ideal.ofBits_zero_f32]
  refine congrArg (fun t => Ideal.ofBits .f32 0xBC23D70A#32 * (0 - t)) ?_
  refine (Ideal.multiReduction_add_total _ 0x00000000#32 reduces_S1x256x8_S1 (fun b => by
    match b with
    | ⟨0, _⟩ => rfl) (.inl rfl) rfl _).trans ?_
  refine (sum_idx_1ab _).trans (Finset.sum_congr rfl fun r _ => Finset.sum_congr rfl fun k _ => ?_)
  rw [shapeCast_ab_1ab_apply, ← probs_apply z r (hz r)]
  show probs z (ix2 r k) * Ideal.log (Scalar.select (Ideal.cmp .ogt (probs z (ix2 r k)) (Ideal.ofBits .f32 0x00000000#32)) (probs z (ix2 r k))
    (Ideal.ofBits .f32 0x3F800000#32)) = _
  rw [Ideal.ofBits_zero_f32, Ideal.ofBits_one_f32]
  unfold plogp Ideal.cmp
  by_cases h : 0 < probs z (ix2 r k)
  · rw [if_pos h]; simp only [h, decide_true]; rfl
  · rw [if_neg h]; simp only [h, decide_false]; rfl

/-- One decoder pass's squared error. -/
theorem rowLoss_apply (lg : FVec Ideal S256x64 .f32) (k : ℕ) (u : FVec Ideal S256x2048 .f32) (lab : Vec Ideal S256x1024 .f32)
    (w1 : Vec Ideal S64x2048 .bf16) (w2 : Vec Ideal S2048x1024 .bf16) (r : Fin 256) :
    rowLoss (rowHot (rowCur lg k)) u lab w1 w2 (ix1 r)
      = Ideal.div (sqErr (fun f => u (ix2 r f)) (sel (row lg r) k) (fun o => lab (ix2 r o)) (fun l f => w1 (ix2 l f)) (fun f o => w2 (ix2 f o)))
        ((1024 : ℝ) : EReal) := by
  rw [← mul_inv1024, ← ofBits_inv1024]
  unfold rowLoss
  dsimp only
  refine congrArg (· * Ideal.ofBits .f32 0x3A800000#32) ?_
  refine (Ideal.multiReduction_add_single _ _ _ _ _ _).trans ?_
  unfold sqErr
  refine Finset.sum_congr rfl fun o _ => ?_
  rw [show reduces_S256x1024_S256.lift (ix1 r) o = ix2 r o from funext fun a => Fin.ext (by
    match a with
    | ⟨0, _⟩ => rfl
    | ⟨1, _⟩ => rfl)]
  refine congrArg (fun t : EReal => (t - lab (ix2 r o)) * (t - lab (ix2 r o))) ?_
  refine (Ideal.matmul_plain_apply (M := 256) (K := 2048) (N := 1024) none _ _ _ r o).trans ?_
  rw [constant_apply, Ideal.ofBits_zero_f32, zero_add]
  refine Finset.sum_congr rfl fun f _ => ?_
  rw [shapeCast_self, shapeCast_self]
  refine congrArg (· * w2 (ix2 f o)) ?_
  show max (u (ix2 r f) + FloatOps.matmul _ _ _ _ _ (ix2 r f)) (Ideal.ofBits .f32 0x00000000#32) = _
  rw [Ideal.ofBits_zero_f32]
  refine congrArg (fun t => max (u (ix2 r f) + t) 0) ?_
  refine (Ideal.matmul_plain_apply (M := 256) (K := 64) (N := 2048) none _ _ _ r f).trans ?_
  rw [constant_apply, Ideal.ofBits_zero_f32, zero_add]
  refine Finset.sum_congr rfl fun l _ => ?_
  rw [← rowHot_apply lg r k l]
  rfl

/-- A weight column times a loss, summed over the rows. -/
theorem weigh_apply (p : FVec Ideal S256x1 .f32) (l : FVec Ideal S256 .f32) : weigh p l = ∑ r : Fin 256, p (ix2 r u0) * l (ix1 r) := by
  unfold weigh
  refine (Ideal.multiReduction_add_single _ 0x00000000#32 reduces_S1x256_S1 (.inl rfl) rfl (ix1 u0)).trans
    (Finset.sum_congr rfl fun (r : Fin 256) _ => ?_)
  rw [show reduces_S1x256_S1.lift (ix1 u0) r = ix2 u0 r from funext fun a => Fin.ext (by
    match a with
    | ⟨0, _⟩ => rfl
    | ⟨1, _⟩ => rfl)]
  rw [shapeCast_a_1a_apply]
  refine congrArg (· * l (ix1 r)) ?_
  exact shapeCast_apply p shapeCasts_S256x1_S256 (ix1 r) (ix2 r u0) (by
    rw [Shape.rowMajor_val_two, Shape.rowMajor_val_one]
    show r.val * 1 + 0 = r.val
    omega)

/-- The number a block adds. -/
theorem blockSum_eq (lg : FVec Ideal S256x64 .f32) (u : FVec Ideal S256x2048 .f32) (lab : Vec Ideal S256x1024 .f32)
    (w1 : Vec Ideal S64x2048 .bf16) (w2 : Vec Ideal S2048x1024 .bf16)
    (hz : ∀ r (k : Fin 8), ∃ x : ℝ, top (cur (row lg r) k.val) = x) :
    blockSum lg u lab w1 w2
      = Ideal.ofBits .f32 0xBC23D70A#32 * (0 - ∑ r : Fin 256, ent (fun k : Fin 8 => top (cur (row lg r) k.val)))
        + ∑ k : Fin 8, ∑ r : Fin 256, prob (fun k : Fin 8 => top (cur (row lg r) k.val)) k
          * Ideal.div (sqErr (fun f => u (ix2 r f)) (sel (row lg r) k.val) (fun o => lab (ix2 r o)) (fun l f => w1 (ix2 l f)) (fun f o => w2 (ix2 f o)))
            ((1024 : ℝ) : EReal) := by
  have hrow : ∀ r, row8 (zs lg) r = fun k : Fin 8 => top (cur (row lg r) k.val) := fun r => funext fun k => zs_apply lg r k
  have hz' : ∀ r k, ∃ x : ℝ, row8 (zs lg) r k = x := fun r k => by rw [hrow]; exact hz r k
  have hw : ∀ (k : Fin 8) (h : S256x8.Slices ![0, k.val] S256x1),
      weigh (extractStridedSlice S256x1 ![0, k.val] (probs (zs lg)) h) (rowLoss (rowHot (rowCur lg k.val)) u lab w1 w2)
        = ∑ r : Fin 256, prob (fun k : Fin 8 => top (cur (row lg r) k.val)) k
          * Ideal.div (sqErr (fun f => u (ix2 r f)) (sel (row lg r) k.val) (fun o => lab (ix2 r o)) (fun l f => w1 (ix2 l f)) (fun f o => w2 (ix2 f o)))
            ((1024 : ℝ) : EReal) := fun k h => by
    rw [weigh_apply]
    refine Finset.sum_congr rfl fun r _ => ?_
    rw [col_apply, probs_apply _ r (hz' r), rowLoss_apply, hrow]
  unfold blockSum
  rw [Fin.sum_univ_eight, entropy_eq _ hz']
  simp only [hrow]
  rw [← hw 0 slices_S256x8_o0_0_S256x1, ← hw 1 slices_S256x8_o0_1_S256x1, ← hw 2 slices_S256x8_o0_2_S256x1, ← hw 3 slices_S256x8_o0_3_S256x1,
    ← hw 4 slices_S256x8_o0_4_S256x1, ← hw 5 slices_S256x8_o0_5_S256x1, ← hw 6 slices_S256x8_o0_6_S256x1, ← hw 7 slices_S256x8_o0_7_S256x1]
  simp only [← add_assoc]
  rfl

end Cert.KernelIdeal.Run

end
-- ==== Proof.KernelResult.lean ====
/-
  The kernel's result over the extended reals.

  A block's inputs are rows of the argument arrays (`rows_apply`, `whole_apply` and their uses), so the number block `t` adds is
  `Row.block` at `t` (`blockSum_at`), and the result is the blocks' sum divided by the number of rows (`result_eq`).
-/
module

public import proofs.«01_k».proof.Proof.KernelSum
public import proofs.«01_k».proof.Proof.KernelValue

@[expose] public section

set_option maxRecDepth 16384

noncomputable section

namespace Cert.KernelIdeal.Run

open Idealize.ShloMosaic Idealize.ShloMosaic.TcCoe Idealize.ShloMosaic.ValueIdx Idealize.ShloMosaic.Tactic
open Cert.KernelIdeal.Gen Cert.Row

variable (m : (ℓ : Loc nD τ sig) → Buf (Elt Ideal) ℓ) (c : Dev nD)

/-- A matrix by row and column. -/
abbrev mat {a b : ℕ} (x : (⟨2, ![a, b]⟩ : Shape).Idx → EReal) : Fin a → Fin b → EReal := fun i j => x (ix2 i j)

/-- The argument arrays. -/
def inputs : Inputs where
  X := mat (m ((c : Thread nD τ).loc main_arg0) : Vec Ideal S2048x1024 .f32)
  U := mat (m ((c : Thread nD τ).loc main_arg1) : Vec Ideal S2048x1024 .f32)
  L := mat (m ((c : Thread nD τ).loc main_arg2) : Vec Ideal S2048x1024 .f32)
  W := mat (m ((c : Thread nD τ).loc main_arg3) : Vec Ideal S1024x64 .f32)
  b := fun j => (m ((c : Thread nD τ).loc main_arg4) : Vec Ideal S64 .f32) (ix1 j)
  W1 := mat (m ((c : Thread nD τ).loc main_arg5) : Vec Ideal S64x2048 .f32)
  Wu := mat (m ((c : Thread nD τ).loc main_arg6) : Vec Ideal S1024x2048 .f32)
  W2 := mat (m ((c : Thread nD τ).loc main_arg7) : Vec Ideal S2048x1024 .f32)

/-! ## What the host prepares -/

/-- The decoder's input, narrowed. -/
theorem V_v0 : (V m c main_v0 : S2048x1024.Idx → EReal) = (m ((c : Thread nD τ).loc main_arg1) : S2048x1024.Idx → EReal) := by
  unfold V V0 hostOps0
  simp only [List.flatten_cons, List.flatten_nil, List.append_nil]
  after_results
  rfl

/-- The bias as one row. -/
theorem V_v1 : (V m c main_v1 : Vec Ideal S1x64 .f32)
    = shapeCast S1x64 (m ((c : Thread nD τ).loc main_arg4) : Vec Ideal S64 .f32) shapeCasts_S64_S1x64 := by
  unfold V V0 hostOps0
  simp only [List.flatten_cons, List.flatten_nil, List.append_nil]
  after_results
  rfl

/-- The first layer's matrix on the code, narrowed. -/
theorem V_v2 : (V m c main_v2 : S64x2048.Idx → EReal) = (m ((c : Thread nD τ).loc main_arg5) : S64x2048.Idx → EReal) := by
  unfold V V0 hostOps0
  simp only [List.flatten_cons, List.flatten_nil, List.append_nil]
  after_results
  rfl

/-- The first layer's matrix on the decoder's input, narrowed. -/
theorem V_v3 : (V m c main_v3 : S1024x2048.Idx → EReal) = (m ((c : Thread nD τ).loc main_arg6) : S1024x2048.Idx → EReal) := by
  unfold V V0 hostOps0
  simp only [List.flatten_cons, List.flatten_nil, List.append_nil]
  after_results
  rfl

/-- The second layer's matrix, narrowed. -/
theorem V_v4 : (V m c main_v4 : S2048x1024.Idx → EReal) = (m ((c : Thread nD τ).loc main_arg7) : S2048x1024.Idx → EReal) := by
  unfold V V0 hostOps0
  simp only [List.flatten_cons, List.flatten_nil, List.append_nil]
  after_results
  rfl

/-! ## The blocks -/

/-- A grid point as a block's number. -/
abbrev blk (t : Fin cfg0.N) : Fin 8 := ⟨t.val, N_0 ▸ t.isLt⟩

/-- Where the windows' blocks begin. -/
theorem starts (t : Fin cfg0.N) : (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) := by
  rcases fin_N0 t with rfl | rfl | rfl | rfl | rfl | rfl | rfl | rfl <;> decide

/-- A block of the encoder's input. -/
theorem iblk0_apply (t : Fin cfg0.N) (r : Fin 256) (i : Fin 1024) :
    (iblk m c 0 t : Vec Ideal S256x1024 .f32) (ix2 r i) = (inputs m c).X (at256 (blk t) r) i := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 256 + 1 * r.val = 256 * t.val + r.val; rw [(starts t).1.1]; omega
  | ⟨1, _⟩ => show win0_0.index t 1 * 1024 + 1 * i.val = i.val; rw [(starts t).1.2]; omega

/-- A block of the decoder's input. -/
theorem iblk1_apply (t : Fin cfg0.N) (r : Fin 256) (i : Fin 1024) :
    (iblk m c 1 t : Vec Ideal S256x1024 .bf16) (ix2 r i) = (inputs m c).U (at256 (blk t) r) i := by
  unfold iblk
  rw [View.read_apply]
  show (V m c main_v0 : S2048x1024.Idx → EReal) _ = (m ((c : Thread nD τ).loc main_arg1) : S2048x1024.Idx → EReal) _
  rw [V_v0]
  congr 1
  funext a
  apply Fin.ext
  match a with
  | ⟨0, _⟩ => show win0_1.index t 0 * 256 + 1 * r.val = 256 * t.val + r.val; rw [(starts t).2.1.1]; omega
  | ⟨1, _⟩ => show win0_1.index t 1 * 1024 + 1 * i.val = i.val; rw [(starts t).2.1.2]; omega

/-- A block of the labels. -/
theorem iblk2_apply (t : Fin cfg0.N) (r : Fin 256) (i : Fin 1024) :
    (iblk m c 2 t : Vec Ideal S256x1024 .f32) (ix2 r i) = (inputs m c).L (at256 (blk t) r) i := by
  unfold iblk
  rw [View.read_apply]
  show V m c main_arg2 _ = m ((c : Thread nD τ).loc main_arg2) _
  rw [V_main_arg2]
  congr 1
  funext a
  apply Fin.ext
  match a with
  | ⟨0, _⟩ => show win0_2.index t 0 * 256 + 1 * r.val = 256 * t.val + r.val; rw [(starts t).2.2.1.1]; omega
  | ⟨1, _⟩ => show win0_2.index t 1 * 1024 + 1 * i.val = i.val; rw [(starts t).2.2.1.2]; omega

/-- The encoder's matrix, whole at every point. -/
theorem iblk3_apply (t : Fin cfg0.N) (i : Fin 1024) (j : Fin 64) :
    (iblk m c 3 t : Vec Ideal S1024x64 .f32) (ix2 i j) = (inputs m c).W i j := by
  unfold iblk
  rw [View.read_apply]
  show V m c main_arg3 _ = m ((c : Thread nD τ).loc main_arg3) _
  rw [V_main_arg3]
  congr 1
  funext a
  apply Fin.ext
  match a with
  | ⟨0, _⟩ => show win0_3.index t 0 * 1024 + 1 * i.val = i.val; rw [(starts t).2.2.2.1.1]; omega
  | ⟨1, _⟩ => show win0_3.index t 1 * 64 + 1 * j.val = j.val; rw [(starts t).2.2.2.1.2]; omega

/-- The encoder's bias, whole at every point. -/
theorem iblk4_apply (t : Fin cfg0.N) (u : Fin 1) (j : Fin 64) :
    (iblk m c 4 t : Vec Ideal S1x64 .f32) (ix2 u j) = (inputs m c).b j := by
  unfold iblk
  rw [View.read_apply]
  show (V m c main_v1 : Vec Ideal S1x64 .f32) _ = (m ((c : Thread nD τ).loc main_arg4) : Vec Ideal S64 .f32) (ix1 j)
  rw [V_v1, ← shapeCast_a_1a_apply (m ((c : Thread nD τ).loc main_arg4) : Vec Ideal S64 .f32) shapeCasts_S64_S1x64 u j]
  congr 1
  funext a
  apply Fin.ext
  match a with
  | ⟨0, _⟩ => show win0_4.index t 0 * 1 + 1 * u.val = u.val; rw [(starts t).2.2.2.2.1.1]; omega
  | ⟨1, _⟩ => show win0_4.index t 1 * 64 + 1 * j.val = j.val; rw [(starts t).2.2.2.2.1.2]; omega

/-- The first layer's matrix on the code, whole at every point. -/
theorem iblk5_apply (t : Fin cfg0.N) (i : Fin 64) (j : Fin 2048) :
    (iblk m c 5 t : Vec Ideal S64x2048 .bf16) (ix2 i j) = (inputs m c).W1 i j := by
  unfold iblk
  rw [View.read_apply]
  show (V m c main_v2 : S64x2048.Idx → EReal) _ = (m ((c : Thread nD τ).loc main_arg5) : S64x2048.Idx → EReal) _
  rw [V_v2]
  congr 1
  funext a
  apply Fin.ext
  match a with
  | ⟨0, _⟩ => show win0_5.index t 0 * 64 + 1 * i.val = i.val; rw [(starts t).2.2.2.2.2.1.1]; omega
  | ⟨1, _⟩ => show win0_5.index t 1 * 2048 + 1 * j.val = j.val; rw [(starts t).2.2.2.2.2.1.2]; omega

/-- The first layer's matrix on the decoder's input, whole at every point. -/
theorem iblk6_apply (t : Fin cfg0.N) (i : Fin 1024) (j : Fin 2048) :
    (iblk m c 6 t : Vec Ideal S1024x2048 .bf16) (ix2 i j) = (inputs m c).Wu i j := by
  unfold iblk
  rw [View.read_apply]
  show (V m c main_v3 : S1024x2048.Idx → EReal) _ = (m ((c : Thread nD τ).loc main_arg6) : S1024x2048.Idx → EReal) _
  rw [V_v3]
  congr 1
  funext a
  apply Fin.ext
  match a with
  | ⟨0, _⟩ => show win0_6.index t 0 * 1024 + 1 * i.val = i.val; rw [(starts t).2.2.2.2.2.2.1.1]; omega
  | ⟨1, _⟩ => show win0_6.index t 1 * 2048 + 1 * j.val = j.val; rw [(starts t).2.2.2.2.2.2.1.2]; omega

/-- The second layer's matrix, whole at every point. -/
theorem iblk7_apply (t : Fin cfg0.N) (i : Fin 2048) (j : Fin 1024) :
    (iblk m c 7 t : Vec Ideal S2048x1024 .bf16) (ix2 i j) = (inputs m c).W2 i j := by
  unfold iblk
  rw [View.read_apply]
  show (V m c main_v4 : S2048x1024.Idx → EReal) _ = (m ((c : Thread nD τ).loc main_arg7) : S2048x1024.Idx → EReal) _
  rw [V_v4]
  congr 1
  funext a
  apply Fin.ext
  match a with
  | ⟨0, _⟩ => show win0_7.index t 0 * 2048 + 1 * i.val = i.val; rw [(starts t).2.2.2.2.2.2.2.1]; omega
  | ⟨1, _⟩ => show win0_7.index t 1 * 1024 + 1 * j.val = j.val; rw [(starts t).2.2.2.2.2.2.2.2]; omega

/-! ## A block's number -/

/-- The logits of a block. -/
theorem logits_apply (x0 : Vec Ideal S256x1024 .f32) (x3 : Vec Ideal S1024x64 .f32) (x4 : Vec Ideal S1x64 .f32) (r : Fin 256) (j : Fin 64) :
    k0_pay2 x0 x3 x4 (ix2 r j) = (∑ i : Fin 1024, x0 (ix2 r i) * x3 (ix2 i j)) + x4 (ix2 u0 j) := by
  unfold k0_pay2
  rw [addf_apply]
  refine congrArg₂ (fun a b : EReal => a + b) ?_ ?_
  · refine (Ideal.matmul_plain_apply (M := 256) (K := 1024) (N := 64) none _ _ _ r j).trans ?_
    rw [constant_apply, Ideal.ofBits_zero_f32, zero_add]
  · rw [shapeCast_self]
    exact broadcastTo_apply x4 broadcasts_S1x64_S256x64 (ix2 r j) (ix2 u0 j) (fun a => by
      match a with
      | ⟨0, _⟩ => rfl
      | ⟨1, _⟩ => rfl)

/-- The hidden layer's part from the decoder's input. -/
theorem hidden_apply (x1 : Vec Ideal S256x1024 .bf16) (x6 : Vec Ideal S1024x2048 .bf16) (r : Fin 256) (f : Fin 2048) :
    k0_pay40 x1 x6 (ix2 r f) = ∑ i : Fin 1024, x1 (ix2 r i) * x6 (ix2 i f) := by
  unfold k0_pay40
  rw [shapeCast_self, shapeCast_self]
  refine (Ideal.matmul_plain_apply (M := 256) (K := 1024) (N := 2048) none _ _ _ r f).trans ?_
  rw [constant_apply, Ideal.ofBits_zero_f32, zero_add]

/-- The number the point `t` adds. -/
theorem blockSum_at (h : ∀ n j, ∃ r : ℝ, (inputs m c).logit n j = r) (t : Fin cfg0.N) :
    blockSum (k0_pay2 (iblk m c 0 t) (iblk m c 3 t) (iblk m c 4 t)) (k0_pay40 (iblk m c 1 t) (iblk m c 6 t)) (iblk m c 2 t)
      (iblk m c 5 t) (iblk m c 7 t) = block (inputs m c).z (inputs m c).q (blk t) := by
  have hrow : ∀ r : Fin 256, row (k0_pay2 (iblk m c 0 t) (iblk m c 3 t) (iblk m c 4 t)) r = (inputs m c).logit (at256 (blk t) r) := fun r => by
    funext j
    show k0_pay2 (iblk m c 0 t) (iblk m c 3 t) (iblk m c 4 t) (ix2 r j) = _
    rw [logits_apply, iblk4_apply]
    refine congrArg (· + (inputs m c).b j) (Finset.sum_congr rfl fun i _ => ?_)
    rw [iblk0_apply, iblk3_apply]
  have htop : ∀ (r : Fin 256) (k : Fin 8), top (cur ((inputs m c).logit (at256 (blk t) r)) k.val) = (inputs m c).z (at256 (blk t) r) k := fun r k =>
    top_cur (fun j e => by
      obtain ⟨x, hx⟩ := h (at256 (blk t) r) j
      rw [hx] at e
      exact EReal.coe_ne_bot x e) k.val (by omega)
  have hu : ∀ r : Fin 256, (fun f : Fin 2048 => k0_pay40 (iblk m c 1 t) (iblk m c 6 t) (ix2 r f)) = (inputs m c).hid (at256 (blk t) r) := fun r => by
    funext f
    rw [hidden_apply]
    refine Finset.sum_congr rfl fun i _ => ?_
    rw [iblk1_apply, iblk6_apply]
  have hl : ∀ r : Fin 256, (fun o : Fin 1024 => (iblk m c 2 t : Vec Ideal S256x1024 .f32) (ix2 r o)) = (inputs m c).L (at256 (blk t) r) := fun r =>
    funext fun o => iblk2_apply m c t r o
  have h5 : (fun (l : Fin 64) (f : Fin 2048) => (iblk m c 5 t : Vec Ideal S64x2048 .bf16) (ix2 l f)) = (inputs m c).W1 :=
    funext fun l => funext fun f => iblk5_apply m c t l f
  have h7 : (fun (f : Fin 2048) (o : Fin 1024) => (iblk m c 7 t : Vec Ideal S2048x1024 .bf16) (ix2 f o)) = (inputs m c).W2 :=
    funext fun f => funext fun o => iblk7_apply m c t f o
  have hz : ∀ (r : Fin 256) (k : Fin 8), ∃ x : ℝ, top (cur (row (k0_pay2 (iblk m c 0 t) (iblk m c 3 t) (iblk m c 4 t)) r) k.val) = x := fun r k => by
    rw [hrow, htop]
    exact z_real _ h _ _
  refine (blockSum_eq _ _ _ _ _ hz).trans ?_
  simp only [hrow, htop, hu, hl, h5, h7]
  rfl

/-! ## The result -/

/-- A later point's store adds. -/
theorem store_succ (n : ℕ) (h0 : 0 < n) (hn : n < 8) (b : EReal) (d : Vec Ideal S1x1 .f32) (i : S1x1.Idx) :
    store (F := Ideal) (BitVec.ofNat 32 n) b d i = d i + b := by
  unfold store
  rw [shapeCast_self, show Scalar.cmpi .eq (BitVec.ofNat 32 n) 0#32 = 0#1 from by
    match n, h0, hn with
    | 1, _, _ => rfl
    | 2, _, _ => rfl
    | 3, _, _ => rfl
    | 4, _, _ => rfl
    | 5, _, _ => rfl
    | 6, _, _ => rfl
    | 7, _, _ => rfl]
  rfl

/-- A grid point's coordinate is its number. -/
theorem coords_val (t : Fin cfg0.N) : (grid0.coords t 0).val = t.val := by
  rcases fin_N0 t with rfl | rfl | rfl | rfl | rfl | rfl | rfl | rfl <;> decide

/-- The buffer after point `n`: the blocks' numbers so far. -/
theorem left_eq (h : ∀ n j, ∃ r : ℝ, (inputs m c).logit n j = r) (n : ℕ) (hn : n < cfg0.N) (i : S1x1.Idx) :
    left m c n hn i = ∑ t ∈ Finset.univ.filter (fun t : Fin 8 => t.val ≤ n), block (inputs m c).z (inputs m c).q t := by
  induction n with
  | zero =>
    rw [show (Finset.univ.filter fun t : Fin 8 => t.val ≤ 0) = {0} by decide, Finset.sum_singleton]
    show step m c ⟨0, hn⟩ _ i = _
    unfold step
    rw [bodyOut_eq, coords_val, blockSum_at m c h]
    rfl
  | succ n ih =>
    have hn8 : n + 1 < 8 := N_0 ▸ hn
    rw [show (Finset.univ.filter fun t : Fin 8 => t.val ≤ n + 1) = insert ⟨n + 1, hn8⟩ (Finset.univ.filter fun t : Fin 8 => t.val ≤ n) from by
      ext a; simp only [Finset.mem_filter, Finset.mem_univ, true_and, Finset.mem_insert, Fin.ext_iff]; omega,
      Finset.sum_insert (by simp only [Finset.mem_filter, Finset.mem_univ, true_and]; omega),
      ← ih (Nat.lt_of_succ_lt hn), add_comm (block _ _ _)]
    show step m c ⟨n + 1, hn⟩ _ i = _
    unfold step
    rw [bodyOut_eq, coords_val, blockSum_at m c h]
    exact store_succ (n + 1) n.succ_pos hn8 _ _ i

/-- The result: the blocks' numbers, summed and divided. -/
theorem result_eq (h : ∀ n j, ∃ r : ℝ, (inputs m c).logit n j = r) (i : S_.Idx) :
    result m c i = Ideal.div (∑ t, block (inputs m c).z (inputs m c).q t) (Ideal.ofBits .f32 0x45000000#32) := by
  unfold result
  show Ideal.div (shapeCast S_ (last m c) shapeCasts_S1x1_S_ i) (Ideal.ofBits .f32 0x45000000#32) = _
  refine congrArg (fun t => Ideal.div t (Ideal.ofBits .f32 0x45000000#32)) ?_
  show last m c _ = _
  unfold last
  rw [left_eq m c h]
  refine Finset.sum_congr ?_ fun _ _ => rfl
  decide

end Cert.KernelIdeal.Run

end
-- ==== Proof.RefTerm.lean ====
/-
  The reference's result in stages.

  The reference's result is one long term of its arguments; here it is written as a chain of named arrays — logits, the eight
  largest, their order, running sums, threshold, weights, one-hot rows, losses — each of the ones before it (`res_eq`).
-/
module

public import proofs.«01_k».proof.Proof.Gen.ReferenceIdeal.Run

@[expose] public section

set_option maxRecDepth 16384

noncomputable section

namespace Cert.ReferenceIdeal.Stage

open Idealize.ShloMosaic Idealize.ShloMosaic.TcCoe
open Cert.ReferenceIdeal Cert.ReferenceIdeal.Gen

variable {F : FTy → Type} [FloatOps F]

/-- The logits. -/
def logits (x : FVec F S2048x1024 .f32) (w : FVec F S1024x64 .f32) (b : FVec F S64 .f32) : FVec F S2048x64 .f32 :=
  addf (Host.dotGeneral dot_S2048x1024_S1024x64_S2048x64_1_0_0_1_n_n none x w)
    (broadcastInDim S2048x64 ![0, 1] bcast_S1x64_S2048x64_0_1 (broadcastInDim S1x64 ![1] bcast_S64_S1x64_1 b))

/-- The eight largest of every row. -/
def tops (lg : FVec F S2048x64 .f32) : FVec F S2048x8 .f32 := (Host.topK S2048x8 1 (FloatOps.cmpfTotal .gt) lg sliceFits_S2048x64_S2048x8).1

/-- Where they are. -/
def picks (lg : FVec F S2048x64 .f32) : IVec S2048x8 32 := (Host.topK S2048x8 1 (FloatOps.cmpfTotal .gt) lg sliceFits_S2048x64_S2048x8).2

/-- The eight sorted once more, the largest first. -/
def sorted (v : FVec F S2048x8 .f32) : FVec F S2048x8 .f32 := Host.reverse [1] (Host.sort S2048x8 1 comparator_f32_d1 v)

/-- Running sums. -/
def sums (z : FVec F S2048x8 .f32) : FVec F S2048x8 .f32 :=
  Host.reduceWindowAdd ![1, 8] ![1, 1] ![0, 7] ![0, 0] z (broadcastInDim S_ ![] bcast_S_S_ (constant S_ .f32 0x00000000#32))
    reduceWindows_S2048x8_S2048x8_w1s1p0_0_w8s1p7_0 h_S_

/-- The threshold test. -/
def tests (z : FVec F S2048x8 .f32) : IVec S2048x8 1 :=
  cmpf .ogt (addf (broadcastInDim S2048x8 ![] bcast_S_S2048x8 (constant S_ .f32 0x3F800000#32))
    (mulf (broadcastInDim S2048x8 ![0, 1] bcast_S1x8_S2048x8_0_1 (broadcastInDim S1x8 ![1] bcast_S8_S1x8_1
      (addf (broadcastInDim S8 ![] bcast_S_S8 (constant S_ .f32 0x3F800000#32)) (sitofp .f32 (iotaInDim S8 32 0))))) z)) (sums z)

/-- How many pass. -/
def counts (z : FVec F S2048x8 .f32) : IVec S2048x1 32 :=
  broadcastInDim S2048x1 ![0] bcast_S2048_S2048x1_0
    (Host.reduce IntOp.addi (extui 32 (tests z) natLt_1_32) (constantI S_ 32 0#32) reducesTo_S2048x8_S2048_d1 h_S_)

/-- The last that passes. -/
def lasts (z : FVec F S2048x8 .f32) : IVec S2048x1 32 := subi (counts z) (broadcastInDim S2048x1 ![] bcast_S_S2048x1 (constantI S_ 32 1#32))

/-- It as an index, a negative one counted from the end. -/
def wrapped (k : IVec S2048x1 32) : IVec S2048x1x1 32 :=
  shapeCast S2048x1x1 (select (cmpi .slt k (broadcastInDim S2048x1 ![] bcast_S_S2048x1 (constantI S_ 32 0#32)))
    (addi k (broadcastInDim S2048x1 ![] bcast_S_S2048x1 (constantI S_ 32 8#32))) k) shapeCasts_S2048x1_S2048x1x1

/-- Whether that index is inside. -/
def inside (ix : IVec S2048x1x1 32) : IVec S2048x1 1 :=
  Host.reduce IntOp.andi (andi (cmpi .sge ix (broadcastInDim S2048x1x1 ![] bcast_S_S2048x1x1 (constantI S_ 32 0#32)))
    (cmpi .sle ix (broadcastInDim S2048x1x1 ![0, 1, 2] bcast_S1x1x1_S2048x1x1_0_1_2
      (broadcastInDim S1x1x1 ![2] bcast_S1_S1x1x1_2 (constantI S1 32 7#32))))) (constantI S_ 1 1#1) reducesTo_S2048x1x1_S2048x1_d2 h_S_

/-- The entries taken at the index. -/
def taken (s : FVec F S2048x8 .f32) (ix : IVec S2048x1x1 32) : FVec F S2048x1 .f32 :=
  select (inside ix) (Host.gather gather_S2048x8_S2048x1x1_S2048x1_n_1_0_0_1_2_11 s ix)
    (broadcastInDim S2048x1 ![] bcast_S_S2048x1 (constant S_ .f32 0x7FC00000#32))

/-- The threshold. -/
def taus (z : FVec F S2048x8 .f32) : FVec F S2048x1 .f32 :=
  Host.divf (subf (taken (sums z) (wrapped (lasts z))) (broadcastInDim S2048x1 ![] bcast_S_S2048x1 (constant S_ .f32 0x3F800000#32)))
    (sitofp .f32 (counts z))

/-- The weights. -/
def weights (v : FVec F S2048x8 .f32) : FVec F S2048x8 .f32 :=
  maximumf (broadcastInDim S2048x8 ![] bcast_S_S2048x8 (id (constant S_ .f32 0x00000000#32)))
    (subf v (broadcastInDim S2048x8 ![0, 1] bcast_S2048x1_S2048x8_0_1 (taus (sorted v))))

/-- The one-hot rows of the codes. -/
def hots (p : IVec S2048x8 32) : FVec F S16384x64 .f32 :=
  shapeCast S16384x64 (uitofp .f32 (cmpi .eq
    (broadcastInDim S2048x8x64 ![0, 1, 2] bcast_S2048x8x1_S2048x8x64_0_1_2 (broadcastInDim S2048x8x1 ![0, 1] bcast_S2048x8_S2048x8x1_0_1 p))
    (broadcastInDim S2048x8x64 ![0, 1, 2] bcast_S1x1x64_S2048x8x64_0_1_2 (iotaInDim S1x1x64 32 2))) : FVec F S2048x8x64 .f32)
    shapeCasts_S2048x8x64_S16384x64

/-- Every row repeated eight times. -/
def repeated (x : FVec F S2048x1024 .f32) : FVec F S16384x1024 .f32 :=
  shapeCast S16384x1024 (shapeCast S2048x8x1024 (broadcastInDim S2048x1x8x1024 ![0, 1, 3] bcast_S2048x1x1024_S2048x1x8x1024_0_1_3
    (broadcastInDim S2048x1x1024 ![0, 2] bcast_S2048x1024_S2048x1x1024_0_2 x)) shapeCasts_S2048x1x8x1024_S2048x8x1024)
    shapeCasts_S2048x8x1024_S16384x1024

/-- The hidden layer. -/
def hidden (h : FVec F S16384x64 .f32) (u : FVec F S16384x1024 .f32) (w1 : FVec F S64x2048 .f32) (wu : FVec F S1024x2048 .f32) :
    FVec F S16384x2048 .f32 :=
  maximumf (addf (Host.dotGeneral dot_S16384x64_S64x2048_S16384x2048_1_0_0_1_n_n none h w1)
    (Host.dotGeneral dot_S16384x1024_S1024x2048_S16384x2048_1_0_0_1_n_n none u wu))
    (broadcastInDim S16384x2048 ![] bcast_S_S16384x2048 (constant S_ .f32 0x00000000#32))

/-- The errors. -/
def errors (h : FVec F S16384x2048 .f32) (w2 : FVec F S2048x1024 .f32) (l : FVec F S16384x1024 .f32) : FVec F S16384x1024 .f32 :=
  subf (Host.dotGeneral dot_S16384x2048_S2048x1024_S16384x1024_1_0_0_1_n_n none h w2) l

/-- The mean squared errors. -/
def losses (e : FVec F S16384x1024 .f32) : FVec F S16384 .f32 :=
  Host.divf (Host.reduceAdd (mulf e e) (constant S_ .f32 0x00000000#32) reducesTo_S16384x1024_S16384_d1 h_S_)
    (broadcastInDim S16384 ![] bcast_S_S16384 (constant S_ .f32 0x44800000#32))

/-- The entropies, negated. -/
def entropies (p : FVec F S2048x8 .f32) : FVec F S2048 .f32 :=
  Host.reduceAdd (mulf p (Host.log (select (cmpf .ogt p (broadcastInDim S2048x8 ![] bcast_S_S2048x8 (constant S_ .f32 0x00000000#32))) p
    (broadcastInDim S2048x8 ![] bcast_S_S2048x8 (id (constant S_ .f32 0x3F800000#32)))))) (constant S_ .f32 0x00000000#32)
    reducesTo_S2048x8_S2048_d1 h_S_

/-- The loss. -/
def total (p : FVec F S2048x8 .f32) (l : FVec F S16384 .f32) : FVec F S_ .f32 :=
  addf (Host.divf (Host.reduceAdd (mulf (shapeCast S16384 p shapeCasts_S2048x8_S16384) l) (constant S_ .f32 0x00000000#32)
      reducesTo_S16384_S_d0 h_S_) (constant S_ .f32 0x45000000#32))
    (Host.negf (mulf (Host.divf (Host.reduceAdd (Host.negf (entropies p)) (constant S_ .f32 0x00000000#32) reducesTo_S2048_S_d0 h_S_)
      (constant S_ .f32 0x45000000#32)) (constant S_ .f32 0x3C23D70A#32)))

/-- The whole, of the eight arguments. -/
def whole (x u l : FVec F S2048x1024 .f32) (w : FVec F S1024x64 .f32) (b : FVec F S64 .f32) (w1 : FVec F S64x2048 .f32)
    (wu : FVec F S1024x2048 .f32) (w2 : FVec F S2048x1024 .f32) : FVec F S_ .f32 :=
  total (weights (tops (logits x w b)))
    (losses (errors (hidden (hots (picks (logits x w b))) (repeated u) w1 wu) w2 (repeated l)))

variable (m : (ℓ : Loc nD τ sig) → Buf (Elt F) ℓ) (c : Dev nD)

/-- The reference's result is that. -/
theorem res_eq : Value.res_main_v64 m c = whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) := rfl

end Cert.ReferenceIdeal.Stage

end
-- ==== Proof.RefWeights.lean ====
/-
  The reference's weights, read at an index over the extended reals.

  Of a row of logits none of which is minus infinity the eight largest are `Row.sel`'s (`tops_apply`, `picks_apply`); sorting them
  again moves nothing (`sorted_apply`); the running sums, the number that pass, the threshold and the weights are `Row.cz`,
  `Row.count`, `Row.tau` and `Row.prob` (`sums_apply`, `counts_apply`, `taus_apply`, `weights_apply`), the entropies `Row.ent`.
-/
module

public import proofs.«01_k».proof.Proof.RefTerm
public import proofs.«01_k».proof.Proof.Spec
public import Idealize.ShloMosaic.PureOps.Ideal.Laws
public import Idealize.ShloMosaic.Lib.IdealHost
public import Idealize.ShloMosaic.Lib.StackMember
public import Idealize.ShloMosaic.Lib.IndicatorCount
public import Idealize.ShloMosaic.Lib.ReduceAll
public import Idealize.ShloMosaic.Lib.ValueIdx
public import Idealize.ShloMosaic.Lib.ValueIdxCoords
public import Idealize.ShloMosaic.Lib.ValueIdxRank1
public import Idealize.ShloMosaic.Lib.ValueLayout
public import Idealize.ShloMosaic.Lib.ValueLayoutCasts

@[expose] public section

set_option maxRecDepth 16384

noncomputable section

namespace Cert.ReferenceIdeal.Stage

open Idealize.ShloMosaic Idealize.ShloMosaic.TcCoe Idealize.ShloMosaic.ValueIdx
open Cert.ReferenceIdeal Cert.ReferenceIdeal.Gen Cert.Row

/-! ## The eight largest -/

/-- Row `n` of the logits. -/
abbrev lrow (lg : FVec Ideal S2048x64 .f32) (n : Fin 2048) : Row := fun j => lg (ix2 n j)

/-- Row `n` of eight numbers. -/
abbrev zrow (z : FVec Ideal S2048x8 .f32) (n : Fin 2048) : Fin 8 → EReal := fun k => z (ix2 n k)

/-- The order the eight largest are taken in. -/
theorem gt_bit (a b : EReal) : (FloatOps.cmpfTotal (F := Ideal) (φ := .f32) .gt a b == 1#1) = decide (b < a) := by
  rw [Ideal.cmpfTotal_def]
  show (BitVec.ofBool (decide (b < a)) == 1#1) = decide (b < a)
  cases decide (b < a) <;> rfl

/-- The entry along the row. -/
theorem along_row {m : ℕ} (n : Fin 2048) (j k : Fin m) :
    Shape.Idx.along (s := ⟨2, ![2048, m]⟩) (ix2 n j) 1 k = ix2 n k := by
  funext a
  match a with
  | ⟨0, _⟩ => rfl
  | ⟨1, _⟩ => rfl

/-- The first eight of a row. -/
theorem first_eight {α : Type} (x : S2048x64.Idx → α) (n : Fin 2048) (k : Fin 8) :
    extractStridedSlice S2048x8 (fun _ => 0) x sliceFits_S2048x64_S2048x8 (ix2 n k) = x (ix2 n (k.castLE (by decide))) := by
  unfold extractStridedSlice
  refine congrArg x ?_
  funext a
  refine Fin.ext ?_
  match a with
  | ⟨0, _⟩ => exact Nat.zero_add _
  | ⟨1, _⟩ => exact Nat.zero_add _

/-- The permutation that puts row `n` in order. -/
abbrev order (lg : FVec Ideal S2048x64 .f32) (j : S2048x64.Idx) : Fin 64 :=
  sortedFrom (fun a b => FloatOps.cmpfTotal (F := Ideal) (φ := .f32) .gt (lg (j.along 1 a)) (lg (j.along 1 b)) == 1#1) (j 1)

/-- The eight largest are the first of the ordered row. -/
theorem tops_eq (lg : FVec Ideal S2048x64 .f32) :
    tops lg = extractStridedSlice S2048x8 (fun _ => 0) (fun j => lg (j.along 1 (order lg j))) sliceFits_S2048x64_S2048x8 := rfl

/-- And so are their positions. -/
theorem picks_eq (lg : FVec Ideal S2048x64 .f32) :
    picks lg = extractStridedSlice S2048x8 (fun _ => 0) (fun j => iotaInDim S2048x64 32 1 (j.along 1 (order lg j))) sliceFits_S2048x64_S2048x8 := rfl

/-- The order of a row none of which is minus infinity. -/
theorem order_eq (lg : FVec Ideal S2048x64 .f32) (n : Fin 2048) (hx : ∀ j, lrow lg n j ≠ ⊥) (k : Fin 8) :
    order lg (ix2 n (k.castLE (by decide))) = sel (lrow lg n) k.val := by
  refine sortedFrom_sel hx _ (fun a b => ?_) k
  refine Eq.trans ?_ (gt_bit (lg (ix2 n a)) (lg (ix2 n b)))
  exact congrArg (· == 1#1) (congrArg₂ (FloatOps.cmpfTotal (F := Ideal) (φ := .f32) .gt) (congrArg lg (along_row n _ _)) (congrArg lg (along_row n _ _)))

/-- A value among the eight largest. -/
theorem tops_apply (lg : FVec Ideal S2048x64 .f32) (n : Fin 2048) (hx : ∀ j, lrow lg n j ≠ ⊥) (k : Fin 8) :
    tops lg (ix2 n k) = lg (ix2 n (sel (lrow lg n) k.val)) :=
  (congrFun (tops_eq lg) _).trans ((first_eight _ n k).trans
    (congrArg lg ((along_row n _ _).trans (congrArg (ix2 n) (order_eq lg n hx k)))))

/-- Where it is. -/
theorem picks_apply (lg : FVec Ideal S2048x64 .f32) (n : Fin 2048) (hx : ∀ j, lrow lg n j ≠ ⊥) (k : Fin 8) :
    picks lg (ix2 n k) = BitVec.ofNat 32 (sel (lrow lg n) k.val).val :=
  (congrFun (picks_eq lg) _).trans ((first_eight _ n k).trans
    ((congrArg (iotaInDim S2048x64 32 1) ((along_row n _ _).trans (congrArg (ix2 n) (order_eq lg n hx k)))).trans
      (iotaInDim_apply 32 1 (ix2 n (sel (lrow lg n) k.val)))))

/-! ## The second sort -/

/-- The order of the second sort. -/
theorem comparator_bit (a b : EReal) : (comparator_f32_d1 (F := Ideal) a b == 1#1) = decide (a < b) := by
  unfold comparator_f32_d1
  simp only [Ideal.cmpfTotal_def, Ideal.cmpf_def]
  have key : ∀ x : EReal, Scalar.select (Ideal.cmp .une x x) (FloatOps.ofBits (F := Ideal) .f32 0x7FC00000#32)
      (Scalar.select (Ideal.cmp .oeq x (FloatOps.ofBits (F := Ideal) .f32 0x00000000#32)) (FloatOps.ofBits (F := Ideal) .f32 0x00000000#32) x) = x := by
    intro x
    have h0 : FloatOps.ofBits (F := Ideal) .f32 0x00000000#32 = (0 : EReal) := Ideal.ofBits_zero_f32
    rw [h0]
    unfold Scalar.select Ideal.cmp
    by_cases h : x = 0 <;> simp [h]
  rw [key, key]
  show (BitVec.ofBool (decide (a < b)) == 1#1) = decide (a < b)
  cases decide (a < b) <;> rfl

/-- A descending row is not moved. -/
theorem sorted_apply (v : FVec Ideal S2048x8 .f32) (n : Fin 2048) (hv : ∀ i j, i ≤ j → zrow v n j ≤ zrow v n i) (k : Fin 8) :
    sorted v (ix2 n k) = v (ix2 n k) := by
  have e : (fun a : Fin S2048x8.rank => if a ∈ ([1] : List (Fin S2048x8.rank)) then ((ix2 n k : S2048x8.Idx) a).rev else (ix2 n k : S2048x8.Idx) a) = ix2 n k.rev := by
    funext a
    match a with
    | ⟨0, _⟩ => rfl
    | ⟨1, _⟩ => rfl
  refine (congrArg (Host.sort S2048x8 1 comparator_f32_d1 v) e).trans ?_
  refine (congrArg v (along_row n _ _)).trans ?_
  refine resort (zrow v n) hv _ (fun a b => ?_) k
  refine Eq.trans ?_ (comparator_bit (v (ix2 n a)) (v (ix2 n b)))
  exact congrArg (· == 1#1) (congrArg₂ comparator_f32_d1 (congrArg v (along_row n _ _)) (congrArg v (along_row n _ _)))

/-! ## Running sums -/

/-- A left fold adding is the sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A window's sum, by the positions of the window. -/
theorem window_sum {W : Shape} (g : W.Idx → EReal) (v : EReal) :
    (List.finRange W.numel).foldl (fun r n => r + g (W.rowMajor.symm n)) v = v + ∑ i, g i := by
  rw [foldl_add (fun n => g (W.rowMajor.symm n)), ← Fin.sum_univ_def]
  exact congrArg (v + ·) (Equiv.sum_comp W.rowMajor.symm g)

/-- A windowed sum at an entry: the initial value and every place of the window, a place outside the array counting as it. -/
theorem windowAdd_apply {s t u : Shape} (window strides lo hi : Fin s.rank → ℕ) (x : FVec Ideal s .f32) (init : FVec Ideal u .f32)
    (h : s.ReduceWindows window strides lo hi t) (hu : 0 < u.numel) (j : t.Idx) :
    Host.reduceWindowAdd window strides lo hi x init h hu j = init (Shape.Idx.first hu) + ∑ i : (⟨s.rank, window⟩ : Shape).Idx,
      if hin : ∀ a, lo a ≤ (j (a.cast h.1.symm)).val * strides a + (i a).val ∧ (j (a.cast h.1.symm)).val * strides a + (i a).val - lo a < s.size a
      then x (fun a => ⟨(j (a.cast h.1.symm)).val * strides a + (i a).val - lo a, (hin a).2⟩) else init (Shape.Idx.first hu) := by
  refine Eq.trans ?_ (window_sum (W := ⟨s.rank, window⟩) _ _)
  unfold Host.reduceWindowAdd
  rw [Ideal.hostReduceWindowAdd_def]
  unfold Ideal.hostReduceWindowAdd Host.reduceWindow
  dsimp only
  congr!

/-- The eight places of the window, seven of them to the left. -/
theorem window_row (x : Fin 8 → EReal) (k : Fin 8) :
    (∑ j : Fin 8, if h : 7 ≤ k.val + j.val ∧ k.val + j.val - 7 < 8 then x ⟨k.val + j.val - 7, h.2⟩ else 0) = cz x k := by
  unfold cz
  fin_cases k <;> simp [Fin.sum_univ_eight, Finset.sum_filter]

/-- The running sums. -/
theorem sums_apply (z : FVec Ideal S2048x8 .f32) (n : Fin 2048) (k : Fin 8) : sums z (ix2 n k) = cz (zrow z n) k := by
  refine (windowAdd_apply ![1, 8] ![1, 1] ![0, 7] ![0, 0] z _ reduceWindows_S2048x8_S2048x8_w1s1p0_0_w8s1p7_0 h_S_ (ix2 n k)).trans ?_
  have h0 : (broadcastInDim S_ ![] bcast_S_S_ (constant (F := Ideal) S_ .f32 0x00000000#32)) (Shape.Idx.first h_S_) = 0 :=
    Ideal.ofBits_zero_f32
  rw [h0, zero_add]
  refine (sum_idx2 (n0 := 1) (n1 := 8) _).trans ?_
  rw [Fin.sum_univ_one]
  refine Eq.trans (Finset.sum_congr rfl fun (j : Fin 8) _ => ?_) (window_row (zrow z n) k)
  by_cases h : 7 ≤ k.val + j.val ∧ k.val + j.val - 7 < 8
  · rw [dif_pos h, dif_pos]
    swap
    · intro a
      match a with
      | ⟨0, _⟩ => exact ⟨Nat.zero_le _, by show n.val * 1 + 0 - 0 < 2048; omega⟩
      | ⟨1, _⟩ => exact ⟨by show 7 ≤ k.val * 1 + j.val; omega, by show k.val * 1 + j.val - 7 < 8; omega⟩
    refine congrArg z ?_
    funext a
    refine Fin.ext ?_
    match a with
    | ⟨0, _⟩ => show n.val * 1 + 0 - 0 = n.val; omega
    | ⟨1, _⟩ => show k.val * 1 + j.val - 7 = k.val + j.val - 7; omega
  · rw [dif_neg h, dif_neg]
    intro hin
    have h1 := hin 1
    have h2 : 7 ≤ k.val * 1 + j.val ∧ k.val * 1 + j.val - 7 < 8 := h1
    omega

end Cert.ReferenceIdeal.Stage

end
-- ==== Proof.RefTau.lean ====
/-
  The reference's threshold, weights and entropies, read at an index over the extended reals.

  For a row of eight real numbers in descending order the number that pass is `Row.count` (`counts_apply`), the running sum taken
  there is the one the threshold is formed of (`taken_apply`), and threshold, weights and negated entropy are `Row.tau`, `Row.prob`
  and `Row.ent` (`taus_apply`, `weights_apply`, `entropies_apply`).
-/
module

public import proofs.«01_k».proof.Proof.RefWeights

@[expose] public section

set_option maxRecDepth 16384

noncomputable section

namespace Cert.ReferenceIdeal.Stage

open Idealize.ShloMosaic Idealize.ShloMosaic.TcCoe Idealize.ShloMosaic.ValueIdx
open Cert.ReferenceIdeal Cert.ReferenceIdeal.Gen Cert.Row

/-! ## The count -/

/-- A row of numbers spread down the rows. -/
theorem spread_row (x : FVec Ideal S8 .f32) (n : Fin 2048) (k : Fin 8) :
    broadcastInDim S2048x8 ![0, 1] bcast_S1x8_S2048x8_0_1 (broadcastInDim S1x8 ![1] bcast_S8_S1x8_1 x) (ix2 n k) = x (ix1 k) := by
  refine (broadcastInDim_apply _ _ _ _ (ix2 0 k) fun a => ?_).trans (broadcastInDim_apply _ _ _ _ (ix1 k) fun a => ?_)
  · match a with
    | ⟨0, _⟩ => rfl
    | ⟨1, _⟩ => rfl
  · match a with
    | ⟨0, _⟩ => rfl

/-- A column of numbers spread along the rows. -/
theorem spread_col (x : FVec Ideal S2048x1 .f32) (n : Fin 2048) (k : Fin 8) :
    broadcastInDim S2048x8 ![0, 1] bcast_S2048x1_S2048x8_0_1 x (ix2 n k) = x (ix2 n 0) := by
  refine broadcastInDim_apply _ _ _ _ (ix2 n 0) fun a => ?_
  match a with
  | ⟨0, _⟩ => rfl
  | ⟨1, _⟩ => rfl

/-- The ranks, counted from one. -/
theorem rank_apply (k : Fin 8) :
    addf (broadcastInDim S8 ![] bcast_S_S8 (constant (F := Ideal) S_ .f32 0x3F800000#32)) (sitofp .f32 (iotaInDim S8 32 0)) (ix1 k)
      = (((k.val + 1 : ℕ) : ℝ) : EReal) := by
  rw [addf_apply, broadcastInDim_scalar_apply, constant_apply, sitofp_apply, iotaInDim_apply]
  show Ideal.ofBits .f32 0x3F800000#32 + (((BitVec.ofNat 32 k.val).toInt : ℝ) : EReal) = _
  rw [Ideal.ofBits_one_f32, show (BitVec.ofNat 32 k.val).toInt = (k.val : ℤ) by fin_cases k <;> rfl]
  push_cast
  exact add_comm _ _

/-- The threshold test. -/
theorem tests_apply (z : FVec Ideal S2048x8 .f32) (n : Fin 2048) (k : Fin 8) :
    tests z (ix2 n k) = Ideal.cmp .ogt (1 + (((k.val + 1 : ℕ) : ℝ) : EReal) * zrow z n k) (cz (zrow z n) k) := by
  unfold tests
  rw [cmpf_apply, Ideal.cmpf_def, addf_apply, mulf_apply, broadcastInDim_scalar_apply, constant_apply, spread_row, rank_apply, sums_apply]
  show Ideal.cmp .ogt (Ideal.ofBits .f32 0x3F800000#32 + _) _ = _
  rw [Ideal.ofBits_one_f32]

/-- The entry of row `n` at the place inserted. -/
theorem lift_row (h : S2048x8.Reduces [1] S2048) (n : Fin 2048) (k : Fin 8) : h.lift (ix1 n) k = ix2 n k := by
  funext a
  match a with
  | ⟨0, _⟩ => rfl
  | ⟨1, _⟩ => rfl

/-- A passed test is the bit one. -/
theorem gt_one (a b : EReal) : Ideal.cmp .ogt a b = 1#1 ↔ b < a := by
  unfold Ideal.cmp
  by_cases h : b < a <;> simp [h]

/-- How many pass. -/
theorem counts_apply (z : FVec Ideal S2048x8 .f32) (n : Fin 2048) (u : Fin 1) : counts z (ix2 n u) = BitVec.ofNat 32 (count (zrow z n)) := by
  classical
  have h : S2048x8.Reduces [1] S2048 := by decide
  unfold counts
  refine (broadcastInDim_apply _ _ _ _ (ix1 n) fun a => ?_).trans ?_
  · match a with
    | ⟨0, _⟩ => rfl
  · refine (Host.reduce_eq_fold_single IntOp.addi _ _ _ h h_S_ (ix1 n)).trans ?_
    refine Eq.trans ?_ ((IndicatorCount.fold_addi_setWidth_eq_card (w := 32) (fun k : Fin 8 => tests z (ix2 n k)) Finset.univ).trans ?_)
    · refine congrArg (fun f => (Finset.univ : Finset (Fin 8)).fold IntOp.addi 0#32 f) (funext fun k => ?_)
      exact congrArg (extui 32 (tests z) natLt_1_32) (lift_row h n k)
    · unfold Row.count
      refine congrArg (fun s : Finset (Fin 8) => BitVec.ofNat 32 s.card) (Finset.ext fun k => ?_)
      rw [Finset.mem_filter, tests_apply]
      refine Iff.trans ?_ Finset.mem_filter.symm
      exact and_congr_right fun _ => gt_one _ _

/-! ## The index -/

/-- The index of a count. -/
theorem lasts_apply (z : FVec Ideal S2048x8 .f32) (n : Fin 2048) (u : Fin 1) (hc : 1 ≤ count (zrow z n)) :
    lasts z (ix2 n u) = BitVec.ofNat 32 (count (zrow z n) - 1) := by
  have h := count_le (zrow z n)
  unfold lasts
  show counts z (ix2 n u) - broadcastInDim S2048x1 ![] bcast_S_S2048x1 (constantI S_ 32 1#32) (ix2 n u) = _
  rw [broadcastInDim_scalar_apply, counts_apply]
  show BitVec.ofNat 32 (count (zrow z n)) - 1#32 = _
  generalize count (zrow z n) = c at *
  interval_cases c <;> rfl

/-- An index that is not negative stays. -/
theorem wrapped_apply (k : IVec S2048x1 32) (n : Fin 2048) (u v : Fin 1) (i : ℕ) (hi : i < 8) (hk : k (ix2 n 0) = BitVec.ofNat 32 i) :
    wrapped k (ix3 n u v) = BitVec.ofNat 32 i := by
  unfold wrapped
  refine (shapeCast_apply _ _ _ (ix2 n 0) ?_).trans ?_
  · rw [Shape.rowMajor_val_two, Shape.rowMajor_val_three]
    have hu : u.val = 0 := by omega
    have hv : v.val = 0 := by omega
    show n.val * 1 + 0 = (n.val * 1 + u.val) * 1 + v.val
    omega
  · show Scalar.select (IntOp.cmpi .slt (k (ix2 n 0)) (broadcastInDim S2048x1 ![] bcast_S_S2048x1 (constantI S_ 32 0#32) (ix2 n 0))) _ (k (ix2 n 0)) = _
    rw [broadcastInDim_scalar_apply, hk]
    show Scalar.select (IntOp.cmpi .slt (BitVec.ofNat 32 i) 0#32) _ _ = _
    have e : IntOp.cmpi .slt (BitVec.ofNat 32 i) 0#32 = 0#1 := by interval_cases i <;> rfl
    rw [e]
    rfl

/-- Indices below eight are inside. -/
theorem inside_apply (ix : IVec S2048x1x1 32) (h : ∀ n, ∃ i : ℕ, i < 8 ∧ ix (ix3 n 0 0) = BitVec.ofNat 32 i) (j : S2048x1.Idx) : inside ix j = 1#1 := by
  unfold inside
  refine Host.reduce_andi_one _ _ _ h_S_ j rfl fun a => ?_
  obtain ⟨i, hi, e⟩ := h (a 0)
  have ea : ix a = BitVec.ofNat 32 i := by
    rw [← e]
    refine congrArg ix ?_
    funext b
    match b with
    | ⟨0, _⟩ => rfl
    | ⟨1, _⟩ => exact Subsingleton.elim (α := Fin 1) _ _
    | ⟨2, _⟩ => exact Subsingleton.elim (α := Fin 1) _ _
  show IntOp.andi (IntOp.cmpi .sge (ix a) 0#32) (IntOp.cmpi .sle (ix a) 7#32) = 1#1
  rw [ea]
  interval_cases i <;> rfl

/-- The entry taken: the index, read signed and held inside the row. -/
theorem gather_apply (s : FVec Ideal S2048x8 .f32) (ix : IVec S2048x1x1 32) (n : Fin 2048) (u : Fin 1) :
    Host.gather gather_S2048x8_S2048x1x1_S2048x1_n_1_0_0_1_2_11 s ix (ix2 n u)
      = s (ix2 n ⟨min (ix (ix3 n u 0)).toInt.toNat 7, by omega⟩) := by
  unfold Host.gather
  refine congrArg s ?_
  funext a
  refine Fin.ext ?_
  show gather_S2048x8_S2048x1x1_S2048x1_n_1_0_0_1_2_11.start (ix2 n u) ix a + gather_S2048x8_S2048x1x1_S2048x1_n_1_0_0_1_2_11.batchCoord (ix2 n u) a
      + gather_S2048x8_S2048x1x1_S2048x1_n_1_0_0_1_2_11.offCoord (ix2 n u) a = _
  have h01 : a = 0 ∨ a = 1 := by
    match a with
    | ⟨0, _⟩ => exact .inl rfl
    | ⟨1, _⟩ => exact .inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    exact dif_pos (show (0 : Fin 2) ∈ gather_S2048x8_S2048x1x1_S2048x1_n_1_0_0_1_2_11.operandBatchingDims from List.mem_singleton.mpr rfl)
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    refine (dif_pos (show (1 : Fin 2) ∈ gather_S2048x8_S2048x1x1_S2048x1_n_1_0_0_1_2_11.startIndexMap from List.mem_singleton.mpr rfl)).trans ?_
    refine congrArg (fun b : BitVec 32 => min b.toInt.toNat 7) (congrArg ix ?_)
    funext b
    refine Fin.ext ?_
    match b with
    | ⟨0, _⟩ => rfl
    | ⟨1, _⟩ => rfl
    | ⟨2, _⟩ => rfl

/-- The running sum taken at the count. -/
theorem taken_apply (z : FVec Ideal S2048x8 .f32) (hc : ∀ n, 1 ≤ count (zrow z n)) (n : Fin 2048) (u : Fin 1) :
    taken (sums z) (wrapped (lasts z)) (ix2 n u) = cz (zrow z n) (Fin.ofNat 8 (count (zrow z n) - 1)) := by
  have hw : ∀ n u v, wrapped (lasts z) (ix3 n u v) = BitVec.ofNat 32 (count (zrow z n) - 1) := fun n u v =>
    wrapped_apply _ n u v _ (by have := count_le (zrow z n); omega) (lasts_apply z n 0 (hc n))
  unfold taken
  rw [select_apply, inside_apply _ fun n => ⟨_, by have := count_le (zrow z n); omega, hw n 0 0⟩, select_one, gather_apply]
  refine (sums_apply z n _).trans (congrArg (cz (zrow z n)) (Fin.ext ?_))
  show min (wrapped (lasts z) (ix3 n u 0)).toInt.toNat 7 = (count (zrow z n) - 1) % 8
  rw [hw]
  have h := count_le (zrow z n)
  have h1 := hc n
  generalize count (zrow z n) = c at *
  interval_cases c <;> rfl

/-! ## Threshold, weights and entropies -/

/-- The threshold. -/
theorem taus_apply (z : FVec Ideal S2048x8 .f32) (hc : ∀ n, 1 ≤ count (zrow z n)) (n : Fin 2048) (u : Fin 1) : taus z (ix2 n u) = tau (zrow z n) := by
  unfold taus
  rw [hostDivf_apply, subf_apply, taken_apply z hc, broadcastInDim_scalar_apply, constant_apply, sitofp_apply, counts_apply]
  have e : (BitVec.ofNat 32 (count (zrow z n))).toInt = (count (zrow z n) : ℤ) := by
    have h := count_le (zrow z n)
    generalize count (zrow z n) = c at *
    interval_cases c <;> rfl
  show Ideal.div (_ - Ideal.ofBits .f32 0x3F800000#32) ((((BitVec.ofNat 32 (count (zrow z n))).toInt : ℤ) : ℝ) : EReal) = _
  rw [Ideal.ofBits_one_f32, e]
  rfl

/-- The weights of rows in descending order. -/
theorem weights_apply (v : FVec Ideal S2048x8 .f32) (hv : ∀ n i j, i ≤ j → zrow v n j ≤ zrow v n i) (hr : ∀ n k, ∃ r : ℝ, zrow v n k = r)
    (n : Fin 2048) (k : Fin 8) : weights v (ix2 n k) = prob (zrow v n) k := by
  have es : sorted v = v := funext fun i => by rw [eq_ix2 i]; exact sorted_apply v _ (hv _) _
  unfold weights
  rw [es, maximumf_apply, broadcastInDim_scalar_apply, subf_apply, spread_col, taus_apply v fun n => count_pos _ (hr n)]
  show max (Ideal.ofBits .f32 0x00000000#32) _ = _
  rw [Ideal.ofBits_zero_f32, max_comm]
  rfl

/-- The negated entropies. -/
theorem entropies_apply (p : FVec Ideal S2048x8 .f32) (z : Fin 8 → EReal) (n : Fin 2048) (hp : ∀ k, p (ix2 n k) = prob z k) :
    entropies p (ix1 n) = ent z := by
  have h : S2048x8.Reduces [1] S2048 := by decide
  unfold entropies
  rw [hostReduceAdd_apply, Ideal.hostReduceAdd_single _ h]
  refine (congrArg (· + _) Ideal.ofBits_zero_f32).trans ((zero_add _).trans (Finset.sum_congr rfl fun (k : Fin 8) _ => ?_))
  rw [lift_row h n k, mulf_apply, hp]
  refine congrArg (prob z k * ·) ?_
  show Ideal.log (Scalar.select (Ideal.cmp .ogt (p (ix2 n k)) (Ideal.ofBits .f32 0x00000000#32)) (p (ix2 n k)) (Ideal.ofBits .f32 0x3F800000#32)) = _
  rw [hp, Ideal.ofBits_zero_f32, Ideal.ofBits_one_f32]
  unfold Scalar.select Ideal.cmp
  by_cases h0 : 0 < prob z k <;> simp [h0]

end Cert.ReferenceIdeal.Stage

end
-- ==== Proof.RefLoss.lean ====
/-
  The reference's loss, read over the extended reals.

  Row `8 n + k` of the flattened arrays belongs to row `n` with its `k`-th code: the one-hot row, the repeated input rows, the hidden
  layer and the mean squared error are read there (`hots_apply`, `repeated_apply`, `hidden_apply`, `losses_apply`).  `whole_eq`: of
  real logits the reference's result is the mean of the weighed losses plus the entropy loss, as `Row.combine` states it.
-/
module

public import proofs.«01_k».proof.Proof.RefTau

@[expose] public section

set_option maxRecDepth 16384

noncomputable section

namespace Cert.ReferenceIdeal.Stage

open Idealize.ShloMosaic Idealize.ShloMosaic.TcCoe Idealize.ShloMosaic.ValueIdx
open Cert.ReferenceIdeal Cert.ReferenceIdeal.Gen Cert.Row

/-- A matrix by row and column. -/
abbrev grid {a b : ℕ} (x : (⟨2, ![a, b]⟩ : Shape).Idx → EReal) : Fin a → Fin b → EReal := fun i j => x (ix2 i j)

/-- The flattened row of row `n` and its `k`-th code. -/
abbrev at8 (n : Fin 2048) (k : Fin 8) : Fin 16384 := ⟨n.val * 8 + k.val, by omega⟩

/-- A sum over the flattened rows. -/
theorem sum_at8 (f : S16384.Idx → EReal) : ∑ i, f i = ∑ n, ∑ k, f (ix1 (at8 n k)) := by
  rw [← Fintype.sum_prod_type' (f := fun n k => f (ix1 (at8 n k)))]
  refine (Fintype.sum_equiv ((finProdFinEquiv (m := 2048) (n := 8)).trans (idxEquiv1 (n := 16384)).symm) _ _ fun p => ?_).symm
  refine congrArg f ?_
  funext a
  refine Fin.ext ?_
  match a with
  | ⟨0, _⟩ => show p.1.val * 8 + p.2.val = p.2.val + 8 * p.1.val; omega

/-! ## Logits -/

/-- The bias spread down the rows. -/
theorem bias_apply (b : FVec Ideal S64 .f32) (n : Fin 2048) (j : Fin 64) :
    broadcastInDim S2048x64 ![0, 1] bcast_S1x64_S2048x64_0_1 (broadcastInDim S1x64 ![1] bcast_S64_S1x64_1 b) (ix2 n j) = b (ix1 j) := by
  refine (broadcastInDim_apply _ _ _ _ (ix2 0 j) fun a => ?_).trans (broadcastInDim_apply _ _ _ _ (ix1 j) fun a => ?_)
  · match a with
    | ⟨0, _⟩ => rfl
    | ⟨1, _⟩ => rfl
  · match a with
    | ⟨0, _⟩ => rfl

/-- A logit. -/
theorem logits_apply (x : FVec Ideal S2048x1024 .f32) (w : FVec Ideal S1024x64 .f32) (b : FVec Ideal S64 .f32) (n : Fin 2048) (j : Fin 64) :
    logits x w b (ix2 n j) = (∑ i, x (ix2 n i) * w (ix2 i j)) + b (ix1 j) := by
  unfold logits
  rw [addf_apply, bias_apply]
  exact congrArg (· + b (ix1 j)) (StackMember.dotGeneral_plain_apply (m := 2048) (k := 1024) (n := 64) none x w n j)

/-! ## The decoder's rows -/

/-- The one-hot row of a code. -/
theorem hots_apply (p : IVec S2048x8 32) (n : Fin 2048) (k : Fin 8) (s l : Fin 64) (hp : p (ix2 n k) = BitVec.ofNat 32 s.val) :
    hots (F := Ideal) p (ix2 (at8 n k) l) = if l = s then (1 : EReal) else 0 := by
  unfold hots
  refine (shapeCast_apply _ _ _ (ix3 n k l) ?_).trans ?_
  · rw [Shape.rowMajor_val_two, Shape.rowMajor_val_three]
    rfl
  · have e1 : broadcastInDim S2048x8x64 ![0, 1, 2] bcast_S2048x8x1_S2048x8x64_0_1_2 (broadcastInDim S2048x8x1 ![0, 1] bcast_S2048x8_S2048x8x1_0_1 p) (ix3 n k l)
        = BitVec.ofNat 32 s.val := by
      refine (broadcastInDim_apply _ _ _ _ (ix3 n k 0) fun a => ?_).trans ((broadcastInDim_apply _ _ _ _ (ix2 n k) fun a => ?_).trans hp)
      · match a with
        | ⟨0, _⟩ => rfl
        | ⟨1, _⟩ => rfl
        | ⟨2, _⟩ => rfl
      · match a with
        | ⟨0, _⟩ => rfl
        | ⟨1, _⟩ => rfl
    have e2 : broadcastInDim S2048x8x64 ![0, 1, 2] bcast_S1x1x64_S2048x8x64_0_1_2 (iotaInDim S1x1x64 32 2) (ix3 n k l) = BitVec.ofNat 32 l.val := by
      refine (broadcastInDim_apply _ _ _ _ (ix3 0 0 l) fun a => ?_).trans (iotaInDim_apply 32 2 _)
      match a with
      | ⟨0, _⟩ => rfl
      | ⟨1, _⟩ => rfl
      | ⟨2, _⟩ => rfl
    show (((IntOp.cmpi .eq _ _).toNat : ℝ) : EReal) = _
    rw [e1, e2]
    by_cases h : l = s
    · subst h
      rw [if_pos rfl]
      simp [IntOp.cmpi]
    · rw [if_neg h]
      have hne : BitVec.ofNat 32 s.val ≠ BitVec.ofNat 32 l.val := fun e => h (Fin.ext (by
        have := congrArg BitVec.toNat e
        simp only [BitVec.toNat_ofNat] at this
        omega))
      simp [IntOp.cmpi, hne]

/-- A repeated row. -/
theorem repeated_apply (x : FVec Ideal S2048x1024 .f32) (n : Fin 2048) (k : Fin 8) (i : Fin 1024) : repeated x (ix2 (at8 n k) i) = x (ix2 n i) := by
  unfold repeated
  refine (shapeCast_apply _ _ _ (ix3 n k i) ?_).trans ((shapeCast_apply _ _ _ (ix4 n 0 k i) ?_).trans
    ((broadcastInDim_apply _ _ _ _ (ix3 n 0 i) fun a => ?_).trans (broadcastInDim_apply _ _ _ _ (ix2 n i) fun a => ?_)))
  · rw [Shape.rowMajor_val_two, Shape.rowMajor_val_three]
    rfl
  · rw [Shape.rowMajor_val_four, Shape.rowMajor_val_three]
    show ((n.val * 1 + 0) * 8 + k.val) * 1024 + i.val = (n.val * 8 + k.val) * 1024 + i.val
    omega
  · match a with
    | ⟨0, _⟩ => rfl
    | ⟨1, _⟩ => rfl
    | ⟨2, _⟩ => rfl
  · match a with
    | ⟨0, _⟩ => rfl
    | ⟨1, _⟩ => rfl

/-- The hidden layer. -/
theorem hidden_apply (h : FVec Ideal S16384x64 .f32) (u : FVec Ideal S16384x1024 .f32) (w1 : FVec Ideal S64x2048 .f32) (wu : FVec Ideal S1024x2048 .f32)
    (r : Fin 16384) (f : Fin 2048) :
    hidden h u w1 wu (ix2 r f) = max ((∑ i, u (ix2 r i) * wu (ix2 i f)) + ∑ l, h (ix2 r l) * w1 (ix2 l f)) 0 := by
  unfold hidden
  rw [maximumf_apply, addf_apply, broadcastInDim_scalar_apply]
  refine congrArg₂ max ((add_comm _ _).trans (congrArg₂ (· + ·) ?_ ?_)) Ideal.ofBits_zero_f32
  · exact StackMember.dotGeneral_plain_apply (m := 16384) (k := 1024) (n := 2048) none u wu r f
  · exact StackMember.dotGeneral_plain_apply (m := 16384) (k := 64) (n := 2048) none h w1 r f

/-- The errors. -/
theorem errors_apply (h : FVec Ideal S16384x2048 .f32) (w2 : FVec Ideal S2048x1024 .f32) (l : FVec Ideal S16384x1024 .f32) (r : Fin 16384) (o : Fin 1024) :
    errors h w2 l (ix2 r o) = (∑ f, h (ix2 r f) * w2 (ix2 f o)) - l (ix2 r o) := by
  unfold errors
  rw [subf_apply]
  exact congrArg (· - l (ix2 r o)) (StackMember.dotGeneral_plain_apply (m := 16384) (k := 2048) (n := 1024) none h w2 r o)

/-- The mean of the squares. -/
theorem losses_apply (e : FVec Ideal S16384x1024 .f32) (r : Fin 16384) :
    losses e (ix1 r) = Ideal.div (∑ o, e (ix2 r o) * e (ix2 r o)) ((1024 : ℝ) : EReal) := by
  have h : S16384x1024.Reduces [1] S16384 := by decide
  unfold losses
  rw [hostDivf_apply, hostReduceAdd_apply, Ideal.hostReduceAdd_single _ h, broadcastInDim_scalar_apply, ← ofBits_1024]
  refine congrArg (Ideal.div · _) ((congrArg (· + _) Ideal.ofBits_zero_f32).trans ((zero_add _).trans (Finset.sum_congr rfl fun (o : Fin 1024) _ => ?_)))
  have el : h.lift (ix1 r) o = ix2 r o := by
    funext a
    match a with
    | ⟨0, _⟩ => rfl
    | ⟨1, _⟩ => rfl
  rw [el, mulf_apply]

/-- The loss of row `n` with its `k`-th code `s`. -/
theorem decoder_apply (p : IVec S2048x8 32) (u l : FVec Ideal S2048x1024 .f32) (w1 : FVec Ideal S64x2048 .f32) (wu : FVec Ideal S1024x2048 .f32)
    (w2 : FVec Ideal S2048x1024 .f32) (n : Fin 2048) (k : Fin 8) (s : Fin 64) (hp : p (ix2 n k) = BitVec.ofNat 32 s.val) :
    losses (errors (hidden (hots p) (repeated u) w1 wu) w2 (repeated l)) (ix1 (at8 n k))
      = Ideal.div (sqErr (fun f => ∑ i, u (ix2 n i) * wu (ix2 i f)) s (fun o => l (ix2 n o)) (grid w1) (grid w2)) ((1024 : ℝ) : EReal) := by
  rw [losses_apply]
  unfold sqErr
  simp only [errors_apply, hidden_apply, repeated_apply, hots_apply p n k s _ hp]

/-! ## The total -/

/-- The two parts of the loss. -/
theorem total_apply (p : FVec Ideal S2048x8 .f32) (l : FVec Ideal S16384 .f32) (i : S_.Idx) :
    total p l i = Ideal.div (∑ n, ∑ k, p (ix2 n k) * l (ix1 (at8 n k))) (Ideal.ofBits .f32 0x45000000#32)
      + -(Ideal.div (∑ n, -(entropies p (ix1 n))) (Ideal.ofBits .f32 0x45000000#32) * Ideal.ofBits .f32 0x3C23D70A#32) := by
  unfold total
  rw [addf_apply, hostDivf_apply, hostReduceAdd_apply, Ideal.hostReduceAdd_total _ fun b => b.elim0, sum_at8]
  refine congrArg₂ (· + ·) (congrArg (Ideal.div · _) ((congrArg (· + _) Ideal.ofBits_zero_f32).trans ((zero_add _).trans
    (Finset.sum_congr rfl fun n _ => Finset.sum_congr rfl fun k _ => ?_)))) ?_
  · rw [mulf_apply]
    refine congrArg (· * l (ix1 (at8 n k))) (shapeCast_apply _ _ _ (ix2 n k) ?_)
    rw [Shape.rowMajor_val_two, Shape.rowMajor_val_one]
    rfl
  · show -(Ideal.div (Host.reduceAdd (Host.negf (entropies p)) (constant S_ .f32 0x00000000#32) reducesTo_S2048_S_d0 h_S_ i) _ * _) = _
    rw [hostReduceAdd_apply, Ideal.hostReduceAdd_total _ fun b => b.elim0, ← Equiv.sum_comp (idxEquiv1 (n := 2048)).symm]
    refine congrArg (fun s => -(Ideal.div s _ * _)) ((congrArg (· + _) Ideal.ofBits_zero_f32).trans ((zero_add _).trans
      (Finset.sum_congr rfl fun n _ => ?_)))
    refine congrArg (fun j => -(entropies p j)) ?_
    funext a
    match a with
    | ⟨0, _⟩ => rfl

/-- The reference's result, of real logits. -/
theorem whole_eq (x u l : FVec Ideal S2048x1024 .f32) (w : FVec Ideal S1024x64 .f32) (b : FVec Ideal S64 .f32) (w1 : FVec Ideal S64x2048 .f32)
    (wu : FVec Ideal S1024x2048 .f32) (w2 : FVec Ideal S2048x1024 .f32) (d : Inputs)
    (hd : d = ⟨grid x, grid u, grid l, grid w, fun j => b (ix1 j), grid w1, grid wu, grid w2⟩) (h : ∀ n j, ∃ r : ℝ, d.logit n j = r) (i : S_.Idx) :
    whole x u l w b w1 wu w2 i = Ideal.div (∑ n, ∑ k, prob (d.z n) k * d.q n k) (Ideal.ofBits .f32 0x45000000#32)
      + -(Ideal.div (∑ n, -(ent (d.z n))) (Ideal.ofBits .f32 0x45000000#32) * Ideal.ofBits .f32 0x3C23D70A#32) := by
  have hl : ∀ n, lrow (logits x w b) n = d.logit n := fun n => funext fun j => by
    rw [hd]; exact logits_apply x w b n j
  have hx : ∀ n j, lrow (logits x w b) n j ≠ ⊥ := fun n j => by
    obtain ⟨r, e⟩ := h n j
    rw [hl, e]
    exact EReal.coe_ne_bot r
  have ht : ∀ n, zrow (tops (logits x w b)) n = d.z n := fun n => funext fun k => by
    refine (tops_apply _ n (hx n) k).trans ?_
    rw [hl]
    exact congrFun (hl n) _
  have hp : ∀ n k, picks (logits x w b) (ix2 n k) = BitVec.ofNat 32 (sel (d.logit n) k.val).val := fun n k => by
    rw [picks_apply _ n (hx n), hl]
  have hr : ∀ n k, ∃ r : ℝ, zrow (tops (logits x w b)) n k = r := fun n k => by rw [ht]; exact z_real d h n k
  have hv : ∀ n i j, i ≤ j → zrow (tops (logits x w b)) n j ≤ zrow (tops (logits x w b)) n i := fun n i j hij => by
    rw [ht]
    exact sel_anti (fun j => by rw [← hl]; exact hx n j) hij (by omega)
  have hw : ∀ n k, weights (tops (logits x w b)) (ix2 n k) = prob (d.z n) k := fun n k => by
    rw [weights_apply _ hv hr, ht]
  have hq : ∀ n k, losses (errors (hidden (hots (picks (logits x w b))) (repeated u) w1 wu) w2 (repeated l)) (ix1 (at8 n k)) = d.q n k := fun n k => by
    rw [decoder_apply _ u l w1 wu w2 n k _ (hp n k), hd]
    rfl
  unfold whole
  rw [total_apply]
  simp only [hw, hq, fun n => entropies_apply (weights (tops (logits x w b))) (d.z n) n (hw n)]

end Cert.ReferenceIdeal.Stage

end
-- ==== Proof.Finite.lean ====
/-
  Finite encoder arguments give real logits.

  The precondition says of every entry of the encoder's input, matrix and bias that its absolute value is below infinity; so each is
  a real number (`entries_real`), and so is every logit (`logit_real`).
-/
module

public import proofs.«01_k».proof.Defs
public import proofs.«01_k».proof.Proof.KernelResult
public import Idealize.ShloMosaic.Lib.ReduceAll

@[expose] public section

noncomputable section

namespace Cert.Pre_encoder_finite

open Idealize.ShloMosaic Idealize.ShloMosaic.ValueIdx

/-- The shape relations the precondition's operations take. -/
theorem facts : Facts where
  bcast_S_S2048x1024 := by decide
  reducesTo_S2048x1024_S_d0_1 := by decide
  h_S_ := by decide
  bcast_S_S1024x64 := by decide
  reducesTo_S1024x64_S_d0_1 := by decide
  bcast_S_S64 := by decide
  reducesTo_S64_S_d0 := by decide

/-- The word of infinity. -/
theorem ofBits_infinity : Ideal.ofBits .f32 0x7F800000#32 = (⊤ : EReal) := by
  simp [Ideal.ofBits, Ideal.ieee]

/-- An absolute value below infinity is a real number's. -/
theorem real_of_bit (x : EReal) (h : FloatOps.cmpf (F := Ideal) (φ := .f32) .olt (max x (-x)) (Ideal.ofBits .f32 0x7F800000#32) = 1#1) :
    ∃ r : ℝ, x = r := by
  rw [Ideal.cmpf_def, ofBits_infinity] at h
  induction x with
  | bot => simp [Ideal.cmp] at h
  | top => simp [Ideal.cmp] at h
  | coe r => exact ⟨r, rfl⟩

/-- Two bits and one. -/
theorem and_one (a b : BitVec 1) (h : IntOp.andi a b = 1#1) : a = 1#1 ∧ b = 1#1 := by
  revert a b; decide

/-- Every entry of an array all of whose absolute values are below infinity is a real number. -/
theorem reals_of_all {s : Shape} {axes : List (Fin s.rank)} (x : FVec Ideal s .f32) (hb : S_.BroadcastsInDim s ![]) (h : s.ReducesTo axes S_) (hu : 0 < S_.numel)
    (j : S_.Idx) (e : Host.reduce IntOp.andi (cmpf .olt (Host.absf x) (broadcastInDim s ![] hb (constant S_ .f32 0x7F800000#32)))
      (constantI S_ 1 1#1) h hu j = 1#1) (i : s.Idx) : ∃ r : ℝ, x i = r := by
  haveI : Subsingleton S_.Idx := ⟨fun a b => funext fun k => k.elim0⟩
  have := Host.reduce_andi_all _ _ h hu j e i
  rw [cmpf_apply, broadcastInDim_scalar_apply] at this
  exact real_of_bit _ this

variable [Facts]

/-- The entries of the encoder's arguments are real numbers. -/
theorem entries_real (x u l : FVec Ideal S2048x1024 .f32) (w : FVec Ideal S1024x64 .f32) (b : FVec Ideal S64 .f32) (w1 : FVec Ideal S64x2048 .f32)
    (wu : FVec Ideal S1024x2048 .f32) (w2 : FVec Ideal S2048x1024 .f32) (h : fn x u l w b w1 wu w2 = fun _ => 1#1) :
    (∀ i, ∃ r : ℝ, x i = r) ∧ (∀ i, ∃ r : ℝ, w i = r) ∧ ∀ i, ∃ r : ℝ, b i = r := by
  have h0 := congrFun h ix0
  unfold fn at h0
  obtain ⟨h1, hb⟩ := and_one _ _ h0
  obtain ⟨hx, hw⟩ := and_one _ _ h1
  exact ⟨reals_of_all x _ _ _ _ hx, reals_of_all w _ _ _ _ hw, reals_of_all b _ _ _ _ hb⟩

/-- Then every logit is one. -/
theorem logit_real (d : Row.Inputs) (hx : ∀ n i, ∃ r : ℝ, d.X n i = r) (hw : ∀ i j, ∃ r : ℝ, d.W i j = r) (hb : ∀ j, ∃ r : ℝ, d.b j = r)
    (n : Fin 2048) (j : Fin 64) : ∃ r : ℝ, d.logit n j = r := by
  obtain ⟨s, hs⟩ := Row.sum_real Finset.univ (fun i => d.X n i * d.W i j) fun i => by
    obtain ⟨a, ha⟩ := hx n i
    obtain ⟨c, hc⟩ := hw i j
    exact ⟨a * c, by rw [ha, hc, EReal.coe_mul]⟩
  obtain ⟨c, hc⟩ := hb j
  refine ⟨s + c, ?_⟩
  unfold Row.Inputs.logit
  rw [hs, hc, EReal.coe_add]

end Cert.Pre_encoder_finite

end
-- ==== Proof.lean ====
/-
  The proof of `Cert.Claim`.

  Every program runs, leaves its arguments and ends with every counter at zero; the idealization is the kernel's own text; and of
  finite encoder arguments the kernel's result is the reference's (`equal`), both being one number of the argument arrays.
-/
module

public import proofs.«01_k».proof.Defs
public import proofs.«01_k».proof.Proof.KernelBits
public import proofs.«01_k».proof.Proof.KernelResult
public import proofs.«01_k».proof.Proof.RefLoss
public import proofs.«01_k».proof.Proof.Finite
public import Idealize.ShloMosaic.Lib.Quiescent

@[expose] public section

noncomputable section

namespace Cert.Proof

open Idealize.ShloMosaic Idealize.ShloMosaic.TcCoe Idealize.ShloMosaic.ValueIdx Idealize.SL.Sem

/-- The kernel at the extended reals runs, leaves its arguments and ends with every counter at zero. -/
theorem kernel_quiescent : Cert.quiescent_KernelIdeal := fun m g _ =>
  (θ_run _ _ _).mono (fun _ h => ⟨fun c => (h.1 c).2, h.2⟩) (Cert.KernelIdeal.Run.run_value m g)

/-- The kernel at the machine's floats does: its text is the same, and the run is of any floats. -/
theorem bits_quiescent : Cert.quiescent_Kernel := fun m g _ => Cert.Kernel.Same.run m g

/-- And the reference does. -/
theorem reference_quiescent : Cert.quiescent_ReferenceIdeal := fun m g _ =>
  (θ_run _ _ _).mono (fun r h => ⟨fun c => (h c).2, sem_eq_zero_of_no_sems (by decide) r.2⟩) (Cert.ReferenceIdeal.Value.run m g)

/-- Of real logits the kernel's result is the reference's of the same arrays. -/
theorem equal (m : (ℓ : Loc Cert.KernelIdeal.nD Cert.KernelIdeal.τ Cert.KernelIdeal.sig) → Buf (Elt Ideal) ℓ) (c : Dev Cert.KernelIdeal.nD)
    (h : ∀ n j, ∃ r : ℝ, (Cert.KernelIdeal.Run.inputs m c).logit n j = r) :
    Cert.ReferenceIdeal.Stage.whole (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      = Cert.KernelIdeal.Run.result m c :=
  funext fun i => (Cert.ReferenceIdeal.Stage.whole_eq _ _ _ _ _ _ _ _ (Cert.KernelIdeal.Run.inputs m c) rfl h i).trans
    ((Cert.Row.combine _ _ (Cert.Row.z_real _ h) (Cert.Row.q_nonneg _)).symm.trans (Cert.KernelIdeal.Run.result_eq m c h i).symm)

/-- The precondition makes the logits real. -/
theorem logits_real [Cert.Pre_encoder_finite.Facts] (m : (ℓ : Loc Cert.KernelIdeal.nD Cert.KernelIdeal.τ Cert.KernelIdeal.sig) → Buf (Elt Ideal) ℓ)
    (hm : Cert.Pre_KernelIdeal_encoder_finite m) (c : Dev Cert.KernelIdeal.nD) (n : Fin 2048) (j : Fin 64) :
    ∃ r : ℝ, (Cert.KernelIdeal.Run.inputs m c).logit n j = r := by
  obtain ⟨hx, hw, hb⟩ := Cert.Pre_encoder_finite.entries_real _ _ _ _ _ _ _ _ (hm c)
  exact Cert.Pre_encoder_finite.logit_real _ (fun n i => hx (ix2 n i)) (fun i j => hw (ix2 i j)) (fun j => hb (ix1 j)) n j

/-- Kernel and reference end with equal results. -/
theorem algebraic [Cert.Pre_encoder_finite.Facts] : Cert.algebraic_KernelIdeal_ReferenceIdeal_pre_encoder_finite := fun m g m' g' hm hargs => by
  refine ⟨fun c => Cert.KernelIdeal.Run.result m c, (θ_run _ _ _).mono (fun _ h => h.1) (Cert.KernelIdeal.Run.run_value m g),
    (θ_run _ _ _).mono (fun _ h c => ⟨(h c).1.trans ?_, (h c).2⟩) (Cert.ReferenceIdeal.Value.run m' g')⟩
  obtain ⟨h0, h1, h2, h3, h4, h5, h6, h7⟩ := hargs c
  rw [Cert.ReferenceIdeal.Stage.res_eq, h0, h1, h2, h3, h4, h5, h6, h7]
  exact equal m c (logits_real m hm c)

/-- Everything claimed. -/
theorem claim : Cert.Claim :=
  ⟨Cert.Kernel.Gen.facts, Cert.KernelIdeal.Gen.facts, Cert.ReferenceIdeal.Gen.facts, Cert.Pre_encoder_finite.facts,
    bits_quiescent, kernel_quiescent, fun m g _ => kernel_quiescent m g trivial,
    reference_quiescent, fun m g _ => reference_quiescent m g trivial, trivial,
    @algebraic Cert.Pre_encoder_finite.facts⟩

end Cert.Proof

end
